-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_score_finite_KernelIdeal [hPre_top_score_finite_KernelIdeal : Cert.Pre_top_score_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_top_score_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_score_finite_ReferenceIdeal [hPre_top_score_finite_ReferenceIdeal : Cert.Pre_top_score_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_score_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_top_score_finite_KernelIdeal [hKernelIdeal : Cert.KernelIdeal.Facts] [hPre_top_score_finite_KernelIdeal : Cert.Pre_top_score_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_score_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_top_score_finite_ReferenceIdeal [hReferenceIdeal : Cert.ReferenceIdeal.Facts] [hPre_top_score_finite_ReferenceIdeal : Cert.Pre_top_score_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_score_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_top_score_finite_KernelIdeal [hKernelIdeal : Cert.KernelIdeal.Facts] [hReferenceIdeal : Cert.ReferenceIdeal.Facts] [hPre_top_score_finite_KernelIdeal : Cert.Pre_top_score_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_score_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_top_score_finite_KernelIdeal : Cert.Pre_top_score_finite_KernelIdeal.Facts) (hPre_top_score_finite_ReferenceIdeal : Cert.Pre_top_score_finite_ReferenceIdeal.Facts),
    quiescent_Kernel (hKernel := hKernel)
    ∧ quiescent_KernelIdeal (hKernelIdeal := hKernelIdeal)
    ∧ quiescent_KernelIdeal_pre_top_score_finite_KernelIdeal (hKernelIdeal := hKernelIdeal) (hPre_top_score_finite_KernelIdeal := hPre_top_score_finite_KernelIdeal)
    ∧ quiescent_ReferenceIdeal (hReferenceIdeal := hReferenceIdeal)
    ∧ quiescent_ReferenceIdeal_pre_top_score_finite_ReferenceIdeal (hReferenceIdeal := hReferenceIdeal) (hPre_top_score_finite_ReferenceIdeal := hPre_top_score_finite_ReferenceIdeal)
    ∧ preserves_Kernel_KernelIdeal
    ∧ algebraic_KernelIdeal_ReferenceIdeal_pre_top_score_finite_KernelIdeal (hKernelIdeal := hKernelIdeal) (hReferenceIdeal := hReferenceIdeal) (hPre_top_score_finite_KernelIdeal := hPre_top_score_finite_KernelIdeal)
-- ==== Pre_top_score_finite_KernelIdeal.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S256x512 : Shape := ⟨2, ![256, 512]⟩
abbrev S512x16 : Shape := ⟨2, ![512, 16]⟩
abbrev S_ : Shape := ⟨0, ![]⟩
abbrev S512 : Shape := ⟨1, ![512]⟩

class Facts : Prop where
  reducesTo_S512x16_S512_d1 : S512x16.ReducesTo [1] S512
  h_S_ : 0 < S_.numel
  bcast_S_S512 : S_.BroadcastsInDim S512 (![] : Fin 0 → Fin S512.rank)
  dot_S512x256_S256x16_S512x16_1_0_0_1_n_n_wf : DotDims.WF S512x256 S256x16 S512x16 [1] [0] [0] [1] [] []

variable [Facts]

def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def fn {F : FTy → Type} [FloatOps F] (main_arg0 : FVec F S512x256 .f32) (main_arg1 : FVec F S256x16 .f32) (main_arg2 : IVec S512x1 32) (main_arg3 : FVec F S4x256x512 .f32) (main_arg4 : FVec F S256x512 .f32) : IVec S512 1 :=
  let main_v0 : FVec F S512x16 .f32 := (fun l r => Host.dotGeneral dot_S512x256_S256x16_S512x16_1_0_0_1_n_n none l r) main_arg0 main_arg1
  let main_cst : FVec F S_ .f32 := constant S_ .f32 0xFF800000#32
  let main_v1 : FVec F S512 .f32 := (fun x v => Host.reduce FloatOps.maximumf x v reducesTo_S512x16_S512_d1 h_S_) main_v0 main_cst
  let main_v2 : FVec F S512 .f32 := Host.absf main_v1
  let main_cst_0 : FVec F S_ .f32 := constant S_ .f32 0x7F800000#32
  let main_v3 : FVec F S512 .f32 := broadcastInDim S512 ![] bcast_S_S512 main_cst_0
  let main_v4 : IVec S512 1 := cmpf .olt main_v2 main_v3
  main_v4
-- ==== Pre_top_score_finite_ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S512x16 : Shape := ⟨2, ![512, 16]⟩
abbrev S_ : Shape := ⟨0, ![]⟩
abbrev S512 : Shape := ⟨1, ![512]⟩

class Facts : Prop where
  reducesTo_S512x16_S512_d1 : S512x16.ReducesTo [1] S512
  h_S_ : 0 < S_.numel
  bcast_S_S512 : S_.BroadcastsInDim S512 (![] : Fin 0 → Fin S512.rank)
  dot_S512x256_S256x16_S512x16_1_0_0_1_n_n_wf : DotDims.WF S512x256 S256x16 S512x16 [1] [0] [0] [1] [] []

variable [Facts]

def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def fn {F : FTy → Type} [FloatOps F] (main_arg0 : FVec F S512x256 .f32) (main_arg1 : FVec F S256x16 .f32) (main_arg2 : IVec S512x1 32) (main_arg3 : FVec F S16x256x512 .f32) (main_arg4 : FVec F S256x512 .f32) : IVec S512 1 :=
  let main_v0 : FVec F S512x16 .f32 := (fun l r => Host.dotGeneral dot_S512x256_S256x16_S512x16_1_0_0_1_n_n none l r) main_arg0 main_arg1
  let main_cst : FVec F S_ .f32 := constant S_ .f32 0xFF800000#32
  let main_v1 : FVec F S512 .f32 := (fun x v => Host.reduce FloatOps.maximumf x v reducesTo_S512x16_S512_d1 h_S_) main_v0 main_cst
  let main_v2 : FVec F S512 .f32 := Host.absf main_v1
  let main_cst_0 : FVec F S_ .f32 := constant S_ .f32 0x7F800000#32
  let main_v3 : FVec F S512 .f32 := broadcastInDim S512 ![] bcast_S_S512 main_cst_0
  let main_v4 : IVec S512 1 := cmpf .olt main_v2 main_v3
  main_v4
-- ==== Kernel.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S256x512 : Shape := ⟨2, ![256, 512]⟩
abbrev S128x512 : Shape := ⟨2, ![128, 512]⟩
abbrev S512x512 : Shape := ⟨2, ![512, 512]⟩
abbrev S3x128x512 : Shape := ⟨3, ![3, 128, 512]⟩
abbrev S3 : Shape := ⟨1, ![3]⟩
abbrev S_ : Shape := ⟨0, ![]⟩
abbrev S512x16 : Shape := ⟨2, ![512, 16]⟩
abbrev S512 : Shape := ⟨1, ![512]⟩
abbrev S512x1024 : Shape := ⟨2, ![512, 1024]⟩
abbrev S1024x512 : Shape := ⟨2, ![1024, 512]⟩
abbrev S1x128x512 : Shape := ⟨3, ![1, 128, 512]⟩
abbrev S1 : Shape := ⟨1, ![1]⟩
abbrev S128x256 : Shape := ⟨2, ![128, 256]⟩

abbrev nBuf : Space → Nat
  | .hbm => 6
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S4x256x512, .f32⟩
  | .hbm, ⟨4, _⟩ => ⟨S256x512, .f32⟩
  | .hbm, ⟨5, _⟩ => ⟨S128x512, .f32⟩
  | .local _ .vmem, ⟨0, _⟩ => ⟨S512x256, .f32⟩
  | .local _ .vmem, ⟨1, _⟩ => ⟨S256x16, .f32⟩
  | .local _ .vmem, ⟨2, _⟩ => ⟨S512x1, .i32⟩
  | .local _ .vmem, ⟨3, _⟩ => ⟨S4x256x512, .f32⟩
  | .local _ .vmem, ⟨4, _⟩ => ⟨S256x512, .f32⟩
  | .local _ .vmem, ⟨5, _⟩ => ⟨S128x512, .f32⟩
  | .local _ .vmem, ⟨6, _⟩ => ⟨S512x512, .f32⟩
  | .local _ .vmem, ⟨7, _⟩ => ⟨S3x128x512, .bf16⟩
  | .local _ .vmem, ⟨8, _⟩ => ⟨S3x128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v86 : BitVec 32 := Scalar.addi v2 c2_i32_39
  let c4_i32_40 : BitVec 32 := 4#32
  let v87 : BitVec 32 := Scalar.remsi v86 c4_i32_40
  let c128_i32 : BitVec 32 := 128#32
  let v88 : BitVec 32 := Scalar.muli v87 c128_i32
  let v89 : Index := Scalar.indexCast v88
  let c0_41 : Index := 0#32
  ![v89.toNat, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_58 : BitVec 32 := 2#32
  let v113 : BitVec 32 := Scalar.addi v2 c2_i32_58
  let c4_i32_59 : BitVec 32 := 4#32
  let v114 : BitVec 32 := Scalar.remsi v113 c4_i32_59
  let c1_i32_64 : BitVec 32 := 1#32
  let v115 : BitVec 32 := Scalar.muli v114 c1_i32_64
  let v116 : BitVec 32 := Scalar.addi c0_i32_65 v115
  v116.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_70 : BitVec 32 := 1#32
  let v125 : BitVec 32 := Scalar.addi v2 c1_i32_70
  let c4_i32_71 : BitVec 32 := 4#32
  let v126 : BitVec 32 := Scalar.remsi v125 c4_i32_71
  let c1_i32_76 : BitVec 32 := 1#32
  let v127 : BitVec 32 := Scalar.muli v126 c1_i32_76
  let v128 : BitVec 32 := Scalar.addi c0_i32_77 v127
  v128.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_82 : BitVec 32 := 3#32
  let v137 : BitVec 32 := Scalar.addi v2 c3_i32_82
  let c4_i32_83 : BitVec 32 := 4#32
  let v138 : BitVec 32 := Scalar.remsi v137 c4_i32_83
  let c1_i32_88 : BitVec 32 := 1#32
  let v139 : BitVec 32 := Scalar.muli v138 c1_i32_88
  let v140 : BitVec 32 := Scalar.addi c0_i32_89 v139
  v140.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_94 : BitVec 32 := 128#32
  let v149 : BitVec 32 := Scalar.muli v2 c128_i32_94
  let v150 : Index := Scalar.indexCast v149
  let c0_95 : Index := 0#32
  ![v150.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_99 : BitVec 32 := 128#32
  let v158 : BitVec 32 := Scalar.muli v2 c128_i32_99
  let v159 : Index := Scalar.indexCast v158
  let c0_100 : Index := 0#32
  ![v159.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S512x16 : Shape := ⟨2, ![512, 16]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S1 : Shape := ⟨1, ![1]⟩
abbrev S1x1x1 : Shape := ⟨3, ![1, 1, 1]⟩
abbrev S512x256x512 : Shape := ⟨3, ![512, 256, 512]⟩

abbrev nBuf : Space → Nat
  | .hbm => 66
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S16x256x512, .f32⟩
  | .hbm, ⟨4, _⟩ => ⟨S256x512, .f32⟩
  | .hbm, ⟨5, _⟩ => ⟨S512x16, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x16, .f32⟩
  | .hbm, ⟨10, _⟩ => ⟨S512x16, .f32⟩
  | .hbm, ⟨11, _⟩ => ⟨S512x16, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x16, .f32⟩
  | .hbm, ⟨16, _⟩ => ⟨S512x16, .f32⟩
  | .hbm, ⟨17, _⟩ => ⟨S512x512, .f32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S_, .i32⟩
  | .hbm, ⟨22, _⟩ => ⟨S512x1, .i32⟩
  | .hbm, ⟨23, _⟩ => ⟨S512x1, .i32⟩
  | .hbm, ⟨24, _⟩ => ⟨S512x1, .i32⟩
  | .hbm, ⟨25, _⟩ => ⟨S512x1x1, .i32⟩
  | .hbm, ⟨26, _⟩ => ⟨S1, .i32⟩
  | .hbm, ⟨27, _⟩ => ⟨S_, .i32⟩
  | .hbm, ⟨28, _⟩ => ⟨S512x1x1, .i32⟩
  | .hbm, ⟨29, _⟩ => ⟨S512x1x1, .i1⟩
  | .hbm, ⟨30, _⟩ => ⟨S1x1x1, .i32⟩
  | .hbm, ⟨31, _⟩ => ⟨S512x1x1, .i32⟩
  | .hbm, ⟨32, _⟩ => ⟨S512x1x1, .i1⟩
  | .hbm, ⟨33, _⟩ => ⟨S512x1x1, .i1⟩
  | .hbm, ⟨34, _⟩ => ⟨S_, .i1⟩
  | .hbm, ⟨35, _⟩ => ⟨S512x1, .i1⟩
  | .hbm, ⟨36, _⟩ => ⟨S512x1, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S512x256x512, .f32⟩
  | .hbm, ⟨50, _⟩ => ⟨S512x512, .f32⟩
  | .hbm, ⟨51, _⟩ => ⟨S_, .i32⟩
  | .hbm, ⟨52, _⟩ => ⟨S512x1, .i32⟩
  | .hbm, ⟨53, _⟩ => ⟨S512x1, .i1⟩
  | .hbm, ⟨54, _⟩ => ⟨S_, .i32⟩
  | .hbm, ⟨55, _⟩ => ⟨S512x1, .i32⟩
  | .hbm, ⟨56, _⟩ => ⟨S512x1, .i1⟩
  | .hbm, ⟨57, _⟩ => ⟨S512x1, .i1⟩
  | .hbm, ⟨58, _⟩ => ⟨S512x512, .f32⟩
  | .hbm, ⟨59, _⟩ => ⟨S512x512, .f32⟩
  | .hbm, ⟨60, _⟩ => ⟨S_, .f32⟩
  | .hbm, ⟨61, _⟩ => ⟨S_, .f32⟩
  | .hbm, ⟨62, _⟩ => ⟨S512x512, .i1⟩
  | .hbm, ⟨63, _⟩ => ⟨S512x512, .f32⟩
  | .hbm, ⟨64, _⟩ => ⟨S512x512, .f32⟩
  | .hbm, ⟨65, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_2 : Ref sig .tc := ⟨.hbm, 51, rfl⟩
abbrev main_v21 : Ref sig .tc := ⟨.hbm, 52, rfl⟩
abbrev main_v22 : Ref sig .tc := ⟨.hbm, 53, rfl⟩
abbrev main_c_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v28 : Ref sig .tc := ⟨.hbm, 64, rfl⟩
abbrev main_v29 : Ref sig .tc := ⟨.hbm, 65, rfl⟩

abbrev nD : Nat := 1
abbrev τ : Topo := Topo.v7x

variable {F : FTy → Type} [FloatOps F]
-- ==== Proof.KernelIdealProtocol.lean ====
/-
The exchange of the mixture-of-experts kernel: its slots, its semaphore cells, who pays which
cell, and the contents that travel.

Every device keeps a partial product of all 512 tokens with its own four experts. It sends
each other device the 128 rows that device is responsible for, one send slot and one landing slot
per distance 1, 2, 3 around the ring of four. Before the first transfer each device tells the three
others that its landing slots are free, and waits until all three have told it the same.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the exchange's, whose duties are named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev 𝒱₀ : Variants := Variants.none

/-! ## Distances around the ring -/

set_option backward.proofsInPublic true in
/-- The device `k + 1` places after `c`. -/
def hop (k : Fin 3) (c : Dev nD) : Dev nD := ⟨(c.val + (k.val + 1)) % 4, Nat.mod_lt _ (by decide)⟩

theorem hop_rev_hop (k : Fin 3) (c : Dev nD) : hop k.rev (hop k c) = c := by revert k c; decide
theorem hop_hop_rev (k : Fin 3) (c : Dev nD) : hop k (hop k.rev c) = c := by revert k c; decide

def hopE (k : Fin 3) : Dev nD ≃ Dev nD := ⟨hop k, hop k.rev, hop_rev_hop k, hop_hop_rev k⟩

theorem dev1_eq (c : Dev nD) : (⟨k0_dev1 c, k0_dev1_lt c⟩ : Dev nD) = hop 0 c := Fin.ext (k0_dev1_eq c)
theorem dev2_eq (c : Dev nD) : (⟨k0_dev2 c, k0_dev2_lt c⟩ : Dev nD) = hop 1 c := Fin.ext (k0_dev2_eq c)
theorem dev3_eq (c : Dev nD) : (⟨k0_dev3 c, k0_dev3_lt c⟩ : Dev nD) = hop 2 c := Fin.ext (k0_dev3_eq c)
theorem dev4_eq (c : Dev nD) : (⟨k0_dev4 c, k0_dev4_lt c⟩ : Dev nD) = hop 1 c := Fin.ext (k0_dev4_eq c)
theorem dev5_eq (c : Dev nD) : (⟨k0_dev5 c, k0_dev5_lt c⟩ : Dev nD) = hop 0 c := Fin.ext (k0_dev5_eq c)
theorem dev6_eq (c : Dev nD) : (⟨k0_dev6 c, k0_dev6_lt c⟩ : Dev nD) = hop 2 c := Fin.ext (k0_dev6_eq c)

/-! ## The slots -/

theorem slot_inb (k : Fin 3) : ∀ a, (![k.val, 0, 0] : Fin 3 → Nat) a + S1x128x512.size a ≤ S3x128x512.size a := by
  revert k; decide

/-- The rectangle of slot `k` in a buffer of three slots. -/
abbrev slotRect (k : Fin 3) : Rect S3x128x512 := Rect.unit (s := S3x128x512) ![k.val, 0, 0] S1x128x512.size (slot_inb k)

abbrev sendM (k : Fin 3) : Memref sig .tc .vmem S128x512 .bf16 :=
  ((Memref.whole cc0_scratch1).slice (slotRect k) (fun _ => rfl)).squeeze S128x512 squeezes_S1x128x512_S128x512
abbrev recvM (k : Fin 3) : Memref sig .tc .vmem S128x512 .bf16 :=
  ((Memref.whole cc0_scratch2).slice (slotRect k) (fun _ => rfl)).squeeze S128x512 squeezes_S1x128x512_S128x512

theorem sendM_set (k : Fin 3) : (sendM k).view.set = (slotRect k).set :=
  (Memref.set_view_squeeze _ _).trans (View.set_slice_whole cc0_scratch1 (slotRect k))
theorem recvM_set (k : Fin 3) : (recvM k).view.set = (slotRect k).set :=
  (Memref.set_view_squeeze _ _).trans (View.set_slice_whole cc0_scratch2 (slotRect k))

/-- Slot `k` of a buffer's contents. -/
def slotGet (k : Fin 3) (f : Vec F S3x128x512 .bf16) : Vec F S1x128x512 .bf16 := fun x => f ((slotRect k).emb x)

/-- Slot `k` of device `c`'s send buffer, at the buffer contents `f`. -/
def sendPts (c : Dev nD) (k : Fin 3) (f : Buf (Elt F) ((c : Thread nD τ).loc cc0_scratch1)) : sProp 𝕄 :=
  ((c : Thread nD τ).loc cc0_scratch1) ↦[(slotRect k).set]{fullShare} f
/-- Slot `k` of device `c`'s landing buffer, at the buffer contents `f`. -/
def recvPts (c : Dev nD) (k : Fin 3) (f : Buf (Elt F) ((c : Thread nD τ).loc cc0_scratch2)) : sProp 𝕄 :=
  ((c : Thread nD τ).loc cc0_scratch2) ↦[(slotRect k).set]{fullShare} f

/-- Slot `k` of the send buffer at some contents. -/
def sendFree (c : Dev nD) (k : Fin 3) : sProp 𝕄 := iprop(∃ f, sendPts (F := F) c k f)
/-- Slot `k` of the landing buffer at some contents. -/
def recvFree (c : Dev nD) (k : Fin 3) : sProp 𝕄 := iprop(∃ f, recvPts (F := F) c k f)
/-- Slot `k` of the send buffer holds `w`. -/
def sendHas (c : Dev nD) (k : Fin 3) (w : Vec F S1x128x512 .bf16) : sProp 𝕄 := iprop(∃ f, ⌜slotGet k f = w⌝ ∗ sendPts c k f)
/-- Slot `k` of the landing buffer holds `w`. -/
def recvHas (c : Dev nD) (k : Fin 3) (w : Vec F S1x128x512 .bf16) : sProp 𝕄 := iprop(∃ f, ⌜slotGet k f = w⌝ ∗ recvPts c k f)

omit [FloatOps F] in
instance sendFree_storable (c : Dev nD) (k : Fin 3) : BI.Storable (upEmb : UEmb _ 𝕄) (sendFree (F := F) c k) := by
  unfold sendFree sendPts; infer_instance
omit [FloatOps F] in
instance recvFree_storable (c : Dev nD) (k : Fin 3) : BI.Storable (upEmb : UEmb _ 𝕄) (recvFree (F := F) c k) := by
  unfold recvFree recvPts; infer_instance
omit [FloatOps F] in
instance recvHas_storable (c : Dev nD) (k : Fin 3) (w) : BI.Storable (upEmb : UEmb _ 𝕄) (recvHas (F := F) c k w) := by
  unfold recvHas recvPts; infer_instance

/-! The three slots make the buffer. -/

theorem slot_disjoint : ∀ t ∈ (Finset.univ : Finset (Fin 3)), ∀ t' ∈ (Finset.univ : Finset (Fin 3)), t ≠ t' →
    Disjoint (slotRect t).set (slotRect t').set := by
  intro t _ t' _ h
  refine Rect.unit_disjoint (0 : Fin 3) ?_
  have h' : t.val ≠ t'.val := fun e => h (Fin.ext e)
  show t.val + 1 ≤ t'.val ∨ t'.val + 1 ≤ t.val
  omega

theorem slot_cover : (Finset.univ : Finset (Fin 3)).biUnion (fun k => (slotRect k).set) = (Finset.univ : Finset S3x128x512.Idx) := by
  ext i
  simp only [Finset.mem_biUnion, Finset.mem_univ, true_and, iff_true]
  refine ⟨⟨(i 0).val, (i 0).isLt⟩, Rect.mem_set_unit.2 fun a => ?_⟩
  have h1 : (i 1).val < 128 := (i 1).isLt
  have h2 : (i 2).val < 512 := (i 2).isLt
  fin_cases a
  · exact ⟨le_rfl, Nat.lt_succ_self _⟩
  · exact ⟨Nat.zero_le _, by show (i 1).val < 0 + 128; omega⟩
  · exact ⟨Nat.zero_le _, by show (i 2).val < 0 + 512; omega⟩

omit [FloatOps F] in
theorem bigSep3 (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

omit [FloatOps F] in
theorem send_split (c : Dev nD) (f : Buf (Elt F) ((c : Thread nD τ).loc cc0_scratch1)) :
    ((((c : Thread nD τ).loc cc0_scratch1) ↦{fullShare} f : sProp 𝕄)) = bigSep Finset.univ fun k : Fin 3 => sendPts c k f := by
  unfold sendPts
  rw [← pointsTo_biUnion (ℓ := (c : Thread nD τ).loc cc0_scratch1) Finset.univ (fun k : Fin 3 => (slotRect k).set) slot_disjoint]
  exact congrArg (fun S => (((c : Thread nD τ).loc cc0_scratch1) ↦[S]{fullShare} f : sProp 𝕄)) slot_cover.symm
omit [FloatOps F] in
theorem recv_split (c : Dev nD) (f : Buf (Elt F) ((c : Thread nD τ).loc cc0_scratch2)) :
    ((((c : Thread nD τ).loc cc0_scratch2) ↦{fullShare} f : sProp 𝕄)) = bigSep Finset.univ fun k : Fin 3 => recvPts c k f := by
  unfold recvPts
  rw [← pointsTo_biUnion (ℓ := (c : Thread nD τ).loc cc0_scratch2) Finset.univ (fun k : Fin 3 => (slotRect k).set) slot_disjoint]
  exact congrArg (fun S => (((c : Thread nD τ).loc cc0_scratch2) ↦[S]{fullShare} f : sProp 𝕄)) slot_cover.symm

omit [FloatOps F] in
theorem send_join (c : Dev nD) :
    iprop(sendFree (F := F) c 0 ∗ sendFree (F := F) c 1 ∗ sendFree (F := F) c 2) ⊢ iprop(∃ f, ((c : Thread nD τ).loc cc0_scratch1) ↦{fullShare} f : sProp 𝕄) := by
  unfold sendFree
  iintro ⟨⟨%f0, H0⟩, ⟨%f1, H1⟩, ⟨%f2, H2⟩⟩
  ihave H := (Entails.of_eq (bigSep3 (fun k => sendPts c k ((![f0, f1, f2] : Fin 3 → _) k))).symm) $$ [H0 H1 H2]
  · isplitl [H0]; · iexact H0
    isplitl [H1]; · iexact H1
    iexact H2
  unfold sendPts
  ihave H := (pointsTo_biUnion_join (ℓ := (c : Thread nD τ).loc cc0_scratch1) Finset.univ (fun k : Fin 3 => (slotRect k).set) (![f0, f1, f2] : Fin 3 → _) f0 slot_disjoint) $$ H
  icases H with ⟨%g, -, H⟩
  iexists g
  iapply (Entails.of_eq (congrArg (fun S => (((c : Thread nD τ).loc cc0_scratch1) ↦[S]{fullShare} g : sProp 𝕄)) slot_cover)) $$ H
omit [FloatOps F] in
theorem recv_join (c : Dev nD) :
    iprop(recvFree (F := F) c 0 ∗ recvFree (F := F) c 1 ∗ recvFree (F := F) c 2) ⊢ iprop(∃ f, ((c : Thread nD τ).loc cc0_scratch2) ↦{fullShare} f : sProp 𝕄) := by
  unfold recvFree
  iintro ⟨⟨%f0, H0⟩, ⟨%f1, H1⟩, ⟨%f2, H2⟩⟩
  ihave H := (Entails.of_eq (bigSep3 (fun k => recvPts c k ((![f0, f1, f2] : Fin 3 → _) k))).symm) $$ [H0 H1 H2]
  · isplitl [H0]; · iexact H0
    isplitl [H1]; · iexact H1
    iexact H2
  unfold recvPts
  ihave H := (pointsTo_biUnion_join (ℓ := (c : Thread nD τ).loc cc0_scratch2) Finset.univ (fun k : Fin 3 => (slotRect k).set) (![f0, f1, f2] : Fin 3 → _) f0 slot_disjoint) $$ H
  icases H with ⟨%g, -, H⟩
  iexists g
  iapply (Entails.of_eq (congrArg (fun S => (((c : Thread nD τ).loc cc0_scratch2) ↦[S]{fullShare} g : sProp 𝕄)) slot_cover)) $$ H

/-! What a load, a store and a transfer do to a slot. -/

omit [FloatOps F] in
theorem slot_load_recv (k : Fin 3) (f : Vec F S3x128x512 .bf16) :
    (Memref.whole cc0_scratch2 : Memref sig .tc .vmem S3x128x512 .bf16).view.readAt (Elt F) (slotRect k).toLoadRect f = slotGet k f := rfl

omit [FloatOps F] in
theorem slot_store_send (k : Fin 3) (f : Vec F S3x128x512 .bf16) (w : Vec F S1x128x512 .bf16) :
    slotGet k (((Memref.whole cc0_scratch1 : Memref sig .tc .vmem S3x128x512 .bf16).access (slotRect k)).write (Elt F) f w Finset.univ) = w := by
  have h := View.read_write_univ (v := (Memref.whole cc0_scratch1 : Memref sig .tc .vmem S3x128x512 .bf16).access (slotRect k)) f w
  generalize ((Memref.whole cc0_scratch1 : Memref sig .tc .vmem S3x128x512 .bf16).access (slotRect k)).write (Elt F) f w Finset.univ = g at h ⊢
  exact h

omit [FloatOps F] in
theorem read_recvM (k : Fin 3) (g : Vec F S3x128x512 .bf16) :
    (recvM k).view.read (Elt F) g = fun y => slotGet k g (Shape.reshapeEquiv squeezes_S1x128x512_S128x512.numel_eq y) := rfl
omit [FloatOps F] in
theorem read_sendM (k : Fin 3) (g : Vec F S3x128x512 .bf16) :
    (sendM k).view.read (Elt F) g = fun y => slotGet k g (Shape.reshapeEquiv squeezes_S1x128x512_S128x512.numel_eq y) := rfl

omit [FloatOps F] in
/-- What a landing slot holds after a transfer from the send slot of the same number. -/
theorem slot_landed (k : Fin 3) (fd fs : Vec F S3x128x512 .bf16) :
    slotGet k ((recvM k).view.write (Elt F) fd ((sendM k).view.read (Elt F) fs) Finset.univ) = slotGet k fs := by
  have h := View.read_write_univ (v := (recvM k).view) fd ((sendM k).view.read (Elt F) fs)
  generalize (recvM k).view.write (Elt F) fd ((sendM k).view.read (Elt F) fs) Finset.univ = g at h ⊢
  rw [read_sendM, read_recvM] at h
  funext x
  obtain ⟨y, rfl⟩ := (Shape.reshapeEquiv squeezes_S1x128x512_S128x512.numel_eq).surjective x
  exact congrFun h y

/-! ## The cells -/

/-- The runtime's barrier semaphore, one per core. -/
abbrev barS : Sem sig := (SemArray.scalar (sig.barrier 0 rfl) : Sems sig S_).sem

theorem sem_inb (k : Fin 3) : ∀ a, (![k.val] : Fin 1 → Nat) a + S1.size a ≤ S3.size a := by revert k; decide

abbrev sendS (k : Fin 3) : DmaSem sig := ((cc0_scratch3.slice (Rect.unit (s := S3) ![k.val] S1.size (sem_inb k))).squeeze S_ squeezes_S1_S_).sem
abbrev recvS (k : Fin 3) : DmaSem sig := ((cc0_scratch4.slice (Rect.unit (s := S3) ![k.val] S1.size (sem_inb k))).squeeze S_ squeezes_S1_S_).sem

/-- The cells of one device: its barrier, and per slot `k` a send cell `(false, k)` and a receive cell `(true, k)`. -/
abbrev Cell : Type := Option (Bool × Fin 3)

def csem : Cell → SemLoc sig
  | none => .reg barS
  | some (false, k) => .dma (sendS k)
  | some (true, k) => .dma (recvS k)

theorem csem_inj : Function.Injective csem := by decide

/-- The cell of the exchange a semaphore is, if any. -/
def which (s : SemLoc sig) : Option Cell :=
  ([none, some (false, 0), some (false, 1), some (false, 2), some (true, 0), some (true, 1), some (true, 2)] : List Cell).find? (fun k => decide (csem k = s))

theorem which_csem (k : Cell) : which (csem k) = some k := by revert k; decide
theorem which_bar : which (.reg barS) = some none := which_csem none
theorem which_send (k : Fin 3) : which (.dma (sendS k)) = some (some (false, k)) := which_csem (some (false, k))
theorem which_recv (k : Fin 3) : which (.dma (recvS k)) = some (some (true, k)) := which_csem (some (true, k))

abbrev kcell (ck : Dev nD × Cell) : GSem nD τ sig := ((ck.1 : Thread nD τ), csem ck.2)
abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- One slot's credit. -/
abbrev N : ℕ := (recvM 0).view.dmaCredit
theorem N_pos : 0 < N := View.dmaCredit_pos _ (by decide)
theorem N_recv (k : Fin 3) : (recvM k).view.dmaCredit = N := rfl
theorem N_send (k : Fin 3) : (sendM k).view.dmaCredit = N := rfl

/-! ## Contents -/

/-- What the staging buffers of device `c` hold: the tokens, the router's weights, the routing indices, the device's four
    experts, the shared expert. -/
def xs (c : Dev nD) : Vec F S512x256 .f32 := iblk m c 0 t0_0
def rws (c : Dev nD) : Vec F S256x16 .f32 := iblk m c 1 t0_0
def ids (c : Dev nD) : Vec F S512x1 .i32 := iblk m c 2 t0_0
def ews (c : Dev nD) : Vec F S4x256x512 .f32 := iblk m c 3 t0_0
def sws (c : Dev nD) : Vec F S256x512 .f32 := iblk m c 4 t0_0

/-- The first of the device's experts is four times this word. -/
abbrev devWord (c : Dev nD) : BitVec 32 := Scalar.remsi (Scalar.divsi (Dev.word c) 1#32) 4#32

/-- The partial product of all tokens with the device's four experts. -/
def part (c : Dev nD) : Vec F S512x512 .f32 :=
  k0_pay9 (k0_pay5 (devWord c) (k0_pay1 (xs m c)) (k0_pay2 (xs m c) (rws m c)) (ids m c))
    (k0_pay6 (devWord c) (k0_pay1 (xs m c)) (k0_pay2 (xs m c) (rws m c)) (ids m c))
    (k0_pay7 (devWord c) (k0_pay1 (xs m c)) (k0_pay2 (xs m c) (rws m c)) (ids m c))
    (k0_pay8 (devWord c) (k0_pay1 (xs m c)) (k0_pay2 (xs m c) (rws m c)) (ids m c)) (ews m c)

/-- The rows of the partial product meant for the device `k + 1` places on. -/
def rowsFor (c : Dev nD) (k : Fin 3) : Vec F S128x512 .f32 :=
  (Memref.whole cc0_scratch0 : Memref sig .tc .vmem S512x512 .f32).view.readAt (Elt F)
    (Rect.unit (s := S512x512) (k0_off1 c (BitVec.ofNat 32 (1 + k.val))) S128x512.size (k0_off1_inb c k)).toLoadRect (part m c)

/-- What device `c` sends through slot `k`. -/
def sent (c : Dev nD) (k : Fin 3) : Vec F S1x128x512 .bf16 := k0_pay10 (rowsFor m c k)

/-- The device's own rows of the partial product, and its own tokens. -/
def ownRows (c : Dev nD) : Vec F S128x512 .f32 :=
  (Memref.whole cc0_scratch0 : Memref sig .tc .vmem S512x512 .f32).view.readAt (Elt F)
    (Rect.unit (s := S512x512) (k0_off3 c) S128x512.size (k0_off3_inb c)).toLoadRect (part m c)
def ownX (c : Dev nD) : Vec F S128x256 .f32 :=
  (Memref.whole cc0_stg0_0 : Memref sig .tc .vmem S512x256 .f32).view.readAt (Elt F)
    (Rect.unit (s := S512x256) (k0_off2 c) S128x256.size (k0_off2_inb c)).toLoadRect (xs m c)

/-- What arrives in landing slot `k` of device `c`. -/
abbrev got (c : Dev nD) (k : Fin 3) : Vec F S1x128x512 .bf16 := sent m (hop k.rev c) k

/-- The result block of device `c`. -/
def outv (c : Dev nD) : Vec F S128x512 .f32 :=
  k0_pay15 (k0_pay14 (k0_pay13 (ownX m c) (sws m c) (ownRows m c)) (got m c 0) (got m c 1)) (got m c 2)

/-! ## The schedule -/

/-- One round. A barrier cell has three duties of one unit: duty `j` is paid by the device `j + 1` places on and hands that
    device's landing slot `j`. A receive cell's duty hands the landing slot with what the sender put there, a send cell's
    duty the send slot. -/
def Rd : Rounds.Schedule (GSem nD τ sig) (Fin 3) 𝕄 where
  duties g r := if r = 0 ∧ g.1.2 = .tc then
      (match which g.2 with | none => ∅ | some none => Finset.univ | some (some _) => {0}) else ∅
  unitless _ := False
  amount g _ _ := match which g.2 with | some (some _) => N | _ => 1
  payload g _ d := match which g.2 with
    | some none => recvFree (hop d g.1.1) d
    | some (some (false, k)) => sendFree g.1.1 k
    | some (some (true, k)) => recvHas g.1.1 k (got m g.1.1 k)
    | none => iprop(emp)
  amount_pos g _ _ _ := by
    split
    · exact N_pos
    · exact Nat.one_pos

instance Rd_payload_storable (g : GSem nD τ sig) (r : ℕ) (d : Fin 3) :
    BI.Storable (upEmb : UEmb _ 𝕄) ((Rd (F := F) m).payload g r d) := by
  show BI.Storable upEmb (match which g.2 with
    | some none => recvFree (hop d g.1.1) d
    | some (some (false, k)) => sendFree g.1.1 k
    | some (some (true, k)) => recvHas g.1.1 k (got m g.1.1 k)
    | none => iprop(emp))
  split <;> infer_instance

section Sched
variable (c : Dev nD) (k : Fin 3)

theorem duties_bar : (Rd (F := F) m).duties (barCell c) 0 = Finset.univ := by
  dsimp only [Rd]; rw [if_pos ⟨rfl, rfl⟩, which_bar]
theorem duties_send : (Rd (F := F) m).duties (sendCell k c) 0 = {0} := by
  dsimp only [Rd]; rw [if_pos ⟨rfl, rfl⟩, which_send]
theorem duties_recv : (Rd (F := F) m).duties (recvCell k c) 0 = {0} := by
  dsimp only [Rd]; rw [if_pos ⟨rfl, rfl⟩, which_recv]
theorem duties_later (g : GSem nD τ sig) : ∀ r, 1 ≤ r → (Rd (F := F) m).duties g r = ∅ :=
  fun r hr => by dsimp only [Rd]; rw [if_neg fun h => by omega]

theorem amount_bar (d : Fin 3) : (Rd (F := F) m).amount (barCell c) 0 d = 1 := by dsimp only [Rd]; rw [which_bar]
theorem amount_send (d : Fin 3) : (Rd (F := F) m).amount (sendCell k c) 0 d = N := by dsimp only [Rd]; rw [which_send]
theorem amount_recv (d : Fin 3) : (Rd (F := F) m).amount (recvCell k c) 0 d = N := by dsimp only [Rd]; rw [which_recv]

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell k c) 0 = N := by
  unfold Schedule.expect Schedule.amountOf; rw [duties_send, Finset.sum_singleton, amount_send]
theorem expect_recv : (Rd (F := F) m).expect (recvCell k c) 0 = N := by
  unfold Schedule.expect Schedule.amountOf; rw [duties_recv, Finset.sum_singleton, amount_recv]

theorem payload_bar (d : Fin 3) : (Rd (F := F) m).payload (barCell c) 0 d = recvFree (hop d c) d := by
  dsimp only [Rd]; rw [which_bar]
theorem payload_send (d : Fin 3) : (Rd (F := F) m).payload (sendCell k c) 0 d = sendFree c k := by
  dsimp only [Rd]; rw [which_send]
theorem payload_recv (d : Fin 3) : (Rd (F := F) m).payload (recvCell k c) 0 d = recvHas c k (got m c k) := by
  dsimp only [Rd]; rw [which_recv]

theorem rest_bar : bigSep ((Rd (F := F) m).duties (barCell c) 0 \ ∅) (fun d => (Rd (F := F) m).payload (barCell c) 0 d)
    = iprop(recvFree (hop 0 c) 0 ∗ recvFree (hop 1 c) 1 ∗ recvFree (hop 2 c) 2) := by
  rw [Finset.sdiff_empty, duties_bar, bigSep3, payload_bar, payload_bar, payload_bar]
theorem rest_send : bigSep ((Rd (F := F) m).duties (sendCell k c) 0 \ ∅) (fun d => (Rd (F := F) m).payload (sendCell k c) 0 d) = sendFree c k := by
  rw [Finset.sdiff_empty, duties_send, bigSep_singleton, payload_send]
theorem rest_recv : bigSep ((Rd (F := F) m).duties (recvCell k c) 0 \ ∅) (fun d => (Rd (F := F) m).payload (recvCell k c) 0 d)
    = recvHas c k (got m c k) := by
  rw [Finset.sdiff_empty, duties_recv, bigSep_singleton, payload_recv]

end Sched

/-! ## What each core owes at launch; the levels -/

/-- What device `c` still owes before its third, second and first transfer. -/
def OR₁ (c : Dev nD) : CellTallies nD τ sig Unit := 0 + tallyAt (recvCell 2 (hop 2 c)) () N
def OR₂ (c : Dev nD) : CellTallies nD τ sig Unit := OR₁ c + tallyAt (recvCell 0 (hop 0 c)) () N
def OR₃ (c : Dev nD) : CellTallies nD τ sig Unit := OR₂ c + tallyAt (recvCell 1 (hop 1 c)) () N
/-- What it still owes before its third, second and first signal. -/
def OB₁ (c : Dev nD) : CellTallies nD τ sig Unit := OR₃ c + tallyAt (barCell (hop 2 c)) () 1
def OB₂ (c : Dev nD) : CellTallies nD τ sig Unit := OB₁ c + tallyAt (barCell (hop 1 c)) () 1
def O₀ (c : Dev nD) : CellTallies nD τ sig Unit := OB₂ c + tallyAt (barCell (hop 0 c)) () 1

def L (g : GSem nD τ sig) : Finset Unit := if g.1.2 = .tc then {()} else ∅
/-- Barrier cells at level 1, receive cells at 2, everything else at 0. -/
def lv (g : GSem nD τ sig) (_ : Unit) : ℕ := match which g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; rw [which_bar]
theorem lv_recv (k : Fin 3) (c : Dev nD) (u : Unit) : lv (recvCell k c) u = 2 := by unfold lv; rw [which_recv]

theorem tally_pos {g g' : GSem nD τ sig} {n : ℕ} {u u' : Unit} (h : 0 < tallyAt g' u' n g u) : g = g' := by
  rw [tallyAt_apply] at h
  by_contra hn
  rw [if_neg (fun h' => hn h'.1)] at h
  exact Nat.lt_irrefl 0 h

theorem OR₃_pos {c : Dev nD} {g : GSem nD τ sig} {u : Unit} (h : 0 < OR₃ c g u) : ∃ k : Fin 3, g = recvCell k (hop k c) := by
  unfold OR₃ OR₂ OR₁ at h
  simp only [Pi.add_apply, Finsupp.add_apply, Pi.zero_apply, Finsupp.zero_apply, Nat.zero_add] at h
  rcases Nat.add_pos_iff_pos_or_pos.1 h with h | h
  · rcases Nat.add_pos_iff_pos_or_pos.1 h with h | h
    · exact ⟨2, tally_pos h⟩
    · exact ⟨0, tally_pos h⟩
  · exact ⟨1, tally_pos h⟩

theorem O₀_pos {c : Dev nD} {g : GSem nD τ sig} {u : Unit} (h : 0 < O₀ c g u) :
    (∃ k : Fin 3, g = recvCell k (hop k c)) ∨ ∃ k : Fin 3, g = barCell (hop k c) := by
  unfold O₀ OB₂ OB₁ at h
  simp only [Pi.add_apply, Finsupp.add_apply] at h
  rcases Nat.add_pos_iff_pos_or_pos.1 h with h | h
  · rcases Nat.add_pos_iff_pos_or_pos.1 h with h | h
    · rcases Nat.add_pos_iff_pos_or_pos.1 h with h | h
      · exact .inl (OR₃_pos h)
      · exact .inr ⟨2, tally_pos h⟩
    · exact .inr ⟨1, tally_pos h⟩
  · exact .inr ⟨0, tally_pos h⟩

omit [FloatOps F] in
/-- A semaphore outside the exchange may be waited on whatever the device owes. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; exact le_of_eq hq)
      (fun g u hg => by
        rcases O₀_pos hg with ⟨k, rfl⟩ | ⟨k, rfl⟩
        · rw [lv_recv]; decide
        · rw [lv_bar]; decide)
  · rw [MayWait_zero]; iintro -; iempintro

omit [FloatOps F] in
/-- At its barrier wait a device owes receive credits only. -/
theorem mayWait_bar (c : Dev nD) :
    (levAts L lv : sProp 𝕄) ⊢ MayWait (c : Thread nD τ) (.reg barS) () (OR₃ c) :=
  MayOwe.of_cut (L := L) (lev := lv) 1 (fun p hp => by rw [Finset.mem_singleton.mp hp, L_tc]; exact Finset.mem_singleton_self _)
    (fun g u hg => by obtain ⟨k, rfl⟩ := OR₃_pos hg; exact Finset.mem_singleton_self _)
    (fun p hp => by rw [Finset.mem_singleton.mp hp]; exact le_of_eq (lv_bar c ()))
    (fun g u hg => by obtain ⟨k, rfl⟩ := OR₃_pos hg; rw [lv_recv]; decide)

/-! ## The ghost state of a device -/

/-- All cells' invariants, at names `K`, and that every cell has reached its round. -/
def records (K : Dev nD × Cell → ℕ) : sProp 𝕄 :=
  iprop((bigSep Finset.univ fun ck : Dev nD × Cell => cellInv ER (Rd m) (K ck) (kcell ck))
    ∗ bigSep Finset.univ fun ck : Dev nD × Cell => reached ER (kcell ck) 0)

instance records_persistent (K : Dev nD × Cell → ℕ) : BI.Persistent (records m K) := by unfold records; infer_instance

theorem inv_at (K : Dev nD × Cell → ℕ) (ck : Dev nD × Cell) : records m K ⊢ cellInv ER (Rd m) (K ck) (kcell ck) := by
  have h : (bigSep Finset.univ fun ck : Dev nD × Cell => (cellInv ER (Rd m) (K ck) (kcell ck) : sProp 𝕄)) ⊢ cellInv ER (Rd m) (K ck) (kcell ck) :=
    bigSep_elim (Finset.mem_univ ck)
  unfold records
  iintro ⟨H, -⟩
  iapply h $$ H

theorem reached_at (K : Dev nD × Cell → ℕ) (ck : Dev nD × Cell) : records m K ⊢ reached ER (kcell ck) 0 := by
  have h : (bigSep Finset.univ fun ck : Dev nD × Cell => (reached ER (kcell ck) 0 : sProp 𝕄)) ⊢ reached ER (kcell ck) 0 :=
    bigSep_elim (Finset.mem_univ ck)
  unfold records
  iintro ⟨-, H⟩
  iapply h $$ H

/-- The tokens of the duties: `(none, k)` for a barrier, `(some b, k)` for a send or receive cell. -/
abbrev Tok : Type := Option Bool × Fin 3

/-- The duty a token of device `c`'s own cells stands for. -/
def tokOf : Dev nD × Tok → GSem nD τ sig × ℕ × Fin 3
  | (c, none, k) => (barCell c, 0, k.rev)
  | (c, some false, k) => (sendCell k c, 0, 0)
  | (c, some true, k) => (recvCell k c, 0, 0)

/-- The device whose cell `c` pays with its token: a send cell is its own. -/
def payee (t : Tok) (c : Dev nD) : Dev nD := match t with
  | (some false, _) => c
  | (_, k) => hop k c

abbrev tokP (p : Dev nD × Tok) : sProp 𝕄 := dutyTok ER (tokOf p).1 (tokOf p).2.1 (tokOf p).2.2

/-- The tokens device `c` pays with. -/
def payToks (c : Dev nD) : sProp 𝕄 := bigSep Finset.univ fun t : Tok => tokP (F := F) (payee t c, t)

/-- The positions of device `c` at its own seven cells. -/
def positions (c : Dev nD) : sProp 𝕄 := bigSep Finset.univ fun k : Cell => atPos ER (kcell (c, k)) 0 ∅ 0

def ghost (K : Dev nD × Cell → ℕ) (c : Dev nD) : sProp 𝕄 := iprop(records m K ∗ positions (F := F) c ∗ payToks (F := F) c)

/-- The credits device `c` starts with: three units of its barrier, each landing slot's credit. -/
def credits (c : Dev nD) : sProp 𝕄 :=
  iprop(cred (tallyAt (barCell c) () 3) ∗ cred (tallyAt (recvCell 0 c) () N) ∗ cred (tallyAt (recvCell 1 c) () N) ∗ cred (tallyAt (recvCell 2 c) () N))

/-- What device `c`'s body starts from, beside its scratch buffers. -/
def start (c : Dev nD) : sProp 𝕄 := iprop((∃ K, ghost m K c) ∗ credits (F := F) c ∗ levAts L lv)

/-- The three scratch buffers at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- The seven cells' counters at zero. -/
def zeros (c : Dev nD) : sProp 𝕄 := bigSep Finset.univ fun k : Cell => semVal (kcell (c, k)) 0

def Φ₀ (c : Dev nD) : sProp 𝕄 := iprop(start m c ∗ scratch (F := F) c)
def Φ₁ (c : Dev nD) : sProp 𝕄 := iprop(scratch (F := F) c ∗ zeros (F := F) c)

omit [FloatOps F] in
theorem bigSepCell (Φ : Cell → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) := by
  rw [bigSep_univ_eq_bigSepL [none, some (false, 0), some (false, 1), some (false, 2), some (true, 0), some (true, 1), some (true, 2)] (by decide) (by decide)]
  simp only [bigSepL_cons_cons, bigSepL_singleton]
  rfl
omit [FloatOps F] in
theorem bigSepTok (Φ : Tok → sProp 𝕄) : bigSep Finset.univ Φ
    = iprop(Φ (none, 0) ∗ Φ (none, 1) ∗ Φ (none, 2) ∗ Φ (some false, 0) ∗ Φ (some false, 1) ∗ Φ (some false, 2) ∗ Φ (some true, 0) ∗ Φ (some true, 1) ∗ Φ (some true, 2)) := by
  rw [bigSep_univ_eq_bigSepL [(none, 0), (none, 1), (none, 2), (some false, 0), (some false, 1), (some false, 2), (some true, 0), (some true, 1), (some true, 2)] (by decide) (by decide)]
  simp only [bigSepL_cons_cons, bigSepL_singleton]
  rfl

/-! ## The pipeline's proof data -/

def dats (_ : Fin 1) (c : Dev nD) : Dat τ (Elt F) Unit ℕ UU ℕ cfg0 c where
  A w := V m c (Pipeline.arrRef spec0 w)
  after w t := match w with
    | ⟨0, _⟩ => xs m c
    | ⟨1, _⟩ => rws m c
    | ⟨2, _⟩ => ids m c
    | ⟨3, _⟩ => ews m c
    | ⟨4, _⟩ => sws m c
    | ⟨5, _⟩ => outv m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdealProof
-- ==== Proof.KernelIdealBody.lean ====
/-
The kernel's body on one device, statement by statement: from the device's ghost state, its inputs and its
scratch buffers to its result block, its cells closed.
-/
module

public import proofs.«01_k».proof.Proof.KernelIdealProtocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Whole-buffer loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

abbrev part0M : Memref sig .tc .vmem S512x512 .f32 := Memref.whole cc0_scratch0
abbrev sendB : Memref sig .tc .vmem S3x128x512 .bf16 := Memref.whole cc0_scratch1
abbrev recvB : Memref sig .tc .vmem S3x128x512 .bf16 := Memref.whole cc0_scratch2
abbrev outM : Memref sig .tc .vmem S128x512 .f32 := Memref.whole cc0_stg5_0

omit [FloatOps F] in
theorem read_xs (f : Vec F S512x256 .f32) : (Memref.whole cc0_stg0_0 : Memref sig .tc .vmem S512x256 .f32).view.readAt (Elt F)
    (Rect.unit (s := S512x256) ![0, 0] S512x256.size inb_S512x256_S512x256_0_0).toLoadRect f = f := Memref.readAt_unit_zero (Elt F) cc0_stg0_0 hz2 _ f
omit [FloatOps F] in
theorem read_rws (f : Vec F S256x16 .f32) : (Memref.whole cc0_stg1_0 : Memref sig .tc .vmem S256x16 .f32).view.readAt (Elt F)
    (Rect.unit (s := S256x16) ![0, 0] S256x16.size inb_S256x16_S256x16_0_0).toLoadRect f = f := Memref.readAt_unit_zero (Elt F) cc0_stg1_0 hz2 _ f
omit [FloatOps F] in
theorem read_ids (f : Vec F S512x1 .i32) : (Memref.whole cc0_stg2_0 : Memref sig .tc .vmem S512x1 .i32).view.readAt (Elt F)
    (Rect.unit (s := S512x1) ![0, 0] S512x1.size inb_S512x1_S512x1_0_0).toLoadRect f = f := Memref.readAt_unit_zero (Elt F) cc0_stg2_0 hz2 _ f
omit [FloatOps F] in
theorem read_ews (f : Vec F S4x256x512 .f32) : (Memref.whole cc0_stg3_0 : Memref sig .tc .vmem S4x256x512 .f32).view.readAt (Elt F)
    (Rect.unit (s := S4x256x512) ![0, 0, 0] S4x256x512.size inb_S4x256x512_S4x256x512_0_0_0).toLoadRect f = f := Memref.readAt_unit_zero (Elt F) cc0_stg3_0 hz3 _ f
omit [FloatOps F] in
theorem read_sws (f : Vec F S256x512 .f32) : (Memref.whole cc0_stg4_0 : Memref sig .tc .vmem S256x512 .f32).view.readAt (Elt F)
    (Rect.unit (s := S256x512) ![0, 0] S256x512.size inb_S256x512_S256x512_0_0).toLoadRect f = f := Memref.readAt_unit_zero (Elt F) cc0_stg4_0 hz2 _ f
omit [FloatOps F] in
theorem write_part (f w : Vec F S512x512 .f32) : ((part0M : Memref sig .tc .vmem S512x512 .f32).access
    (Rect.unit (s := S512x512) ![0, 0] S512x512.size inb_S512x512_S512x512_0_0) : View sig .tc _ _ _).write (Elt F) f w Finset.univ = w :=
  Memref.write_access_unit_zero_univ (Elt F) cc0_scratch0 hz2 _ f w
omit [FloatOps F] in
theorem write_out (f w : Vec F S128x512 .f32) : ((outM : Memref sig .tc .vmem S128x512 .f32).access
    (Rect.unit (s := S128x512) ![0, 0] S128x512.size inb_S128x512_S128x512_0_0) : View sig .tc _ _ _).write (Elt F) f w Finset.univ = w :=
  Memref.write_access_unit_zero_univ (Elt F) cc0_stg5_0 hz2 _ f w

theorem part_eq (c : Dev nD) :
    k0_pay9 (k0_pay5 (Scalar.remsi (Scalar.divsi (Dev.word c) 1#32) 4#32) (k0_pay1 (xs m c)) (k0_pay2 (xs m c) (rws m c)) (ids m c))
      (k0_pay6 (Scalar.remsi (Scalar.divsi (Dev.word c) 1#32) 4#32) (k0_pay1 (xs m c)) (k0_pay2 (xs m c) (rws m c)) (ids m c))
      (k0_pay7 (Scalar.remsi (Scalar.divsi (Dev.word c) 1#32) 4#32) (k0_pay1 (xs m c)) (k0_pay2 (xs m c) (rws m c)) (ids m c))
      (k0_pay8 (Scalar.remsi (Scalar.divsi (Dev.word c) 1#32) 4#32) (k0_pay1 (xs m c)) (k0_pay2 (xs m c) (rws m c)) (ids m c)) (ews m c) = part m c := rfl

/-- The rows a send slot is filled from, read off the partial product. -/
theorem read_rowsFor0 (c : Dev nD) : (part0M : Memref sig .tc .vmem S512x512 .f32).view.readAt (Elt F)
    (Rect.unit (s := S512x512) (k0_off1 c 1#32) S128x512.size (k0_off1_inb c 0)).toLoadRect (part m c) = rowsFor m c 0 := rfl
theorem read_rowsFor1 (c : Dev nD) : (part0M : Memref sig .tc .vmem S512x512 .f32).view.readAt (Elt F)
    (Rect.unit (s := S512x512) (k0_off1 c 2#32) S128x512.size (k0_off1_inb c 1)).toLoadRect (part m c) = rowsFor m c 1 := rfl
theorem read_rowsFor2 (c : Dev nD) : (part0M : Memref sig .tc .vmem S512x512 .f32).view.readAt (Elt F)
    (Rect.unit (s := S512x512) (k0_off1 c 3#32) S128x512.size (k0_off1_inb c 2)).toLoadRect (part m c) = rowsFor m c 2 := rfl
theorem read_ownX (c : Dev nD) : (Memref.whole cc0_stg0_0 : Memref sig .tc .vmem S512x256 .f32).view.readAt (Elt F)
    (Rect.unit (s := S512x256) (k0_off2 c) S128x256.size (k0_off2_inb c)).toLoadRect (xs m c) = ownX m c := rfl
theorem read_ownRows (c : Dev nD) : (part0M : Memref sig .tc .vmem S512x512 .f32).view.readAt (Elt F)
    (Rect.unit (s := S512x512) (k0_off3 c) S128x512.size (k0_off3_inb c)).toLoadRect (part m c) = ownRows m c := rfl

/-! ## Slots: loads and stores through the whole buffer -/

section Steps
variable {α : Type}

abbrev WP (c : Dev nD) (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
theorem sendB_sub (k : Fin 3) : (sendB : Memref sig .tc .vmem S3x128x512 .bf16).view.setOn (slotRect k).set ⊆ (slotRect k).set := by
  unfold View.setOn; exact le_of_eq (Finset.map_refl)
omit [FloatOps F] in
theorem recvB_sub (k : Fin 3) : (recvB : Memref sig .tc .vmem S3x128x512 .bf16).view.setOn (slotRect k).set ⊆ (slotRect k).set := by
  unfold View.setOn; exact le_of_eq (Finset.map_refl)
omit [FloatOps F] in
theorem sendB_access (k : Fin 3) : ((sendB : Memref sig .tc .vmem S3x128x512 .bf16).access (slotRect k)).setOn Finset.univ ⊆ (slotRect k).set :=
  le_of_eq (View.set_slice_whole cc0_scratch1 (slotRect k))

/-- A load of a send slot whose value is not used. -/
theorem wp_load_send {Q : α → sProp 𝕄} (c : Dev nD) (j : Fin 3) {hl} {k : Vec F S1x128x512 .bf16 → Prog (TpuEff nD τ sig (Elt F) Λ₀ .tc) α}
    (f : Vec F S3x128x512 .bf16) :
    sendPts c j f ⊢ iprop((sendPts c j f -∗ WP c (k (slotGet j f)) Q) -∗ WP c (.op (.load sendB (slotRect j).toLoadRect hl) k) Q) :=
  wp_load 𝒱₀ (c : Thread nD τ) none Set.univ (m := sendB) (sendB_sub j)

/-- A store to a send slot. -/
theorem wp_store_send {Q : α → sProp 𝕄} (c : Dev nD) (j : Fin 3) (w : Vec F S1x128x512 .bf16) {hx hm} {k : PUnit → Prog (TpuEff nD τ sig (Elt F) Λ₀ .tc) α}
    (f : Vec F S3x128x512 .bf16) :
    sendPts c j f ⊢ iprop((sendHas c j w -∗ WP c (k ⟨⟩) Q) -∗ WP c (.op (.store sendB (slotRect j) w Finset.univ hx hm) k) Q) := by
  unfold sendPts
  iintro H Hk
  iapply (wp_store 𝒱₀ (c : Thread nD τ) none Set.univ (m := sendB) (r := slotRect j) (Mk := Finset.univ) (sendB_access j)) $$ H
  iintro H
  iapply Hk
  unfold sendHas sendPts
  iexists _
  isplitr
  · ipureintro; exact slot_store_send j f w
  iexact H

/-- A load of a landing slot. -/
theorem wp_load_recv {Q : α → sProp 𝕄} (c : Dev nD) (j : Fin 3) {hl} {k : Vec F S1x128x512 .bf16 → Prog (TpuEff nD τ sig (Elt F) Λ₀ .tc) α}
    (w : Vec F S1x128x512 .bf16) :
    recvHas c j w ⊢ iprop((recvHas c j w -∗ WP c (k w) Q) -∗ WP c (.op (.load recvB (slotRect j).toLoadRect hl) k) Q) := by
  unfold recvHas recvPts
  iintro ⟨%f, %hf, H⟩ Hk
  iapply (wp_load 𝒱₀ (c : Thread nD τ) none Set.univ (m := recvB) (recvB_sub j)) $$ H
  iintro H
  rw [show (recvB : Memref sig .tc .vmem S3x128x512 .bf16).view.readAt (Elt F) (slotRect j).toLoadRect f = w from (slot_load_recv j f).trans hf]
  iapply Hk
  iexists f
  isplitr
  · ipureintro; exact hf
  iexact H

/-! ## The exchange's steps -/

variable (K : Dev nD × Cell → ℕ)

/-- A signal to the device `j + 1` places on, handing over the landing slot that device writes. -/
theorem wp_sig {Q : α → sProp 𝕄} (c n : Dev nD) (j : Fin 3) (hn : n = hop j c) (O : CellTallies nD τ sig Unit) (W : Waits sig Unit)
    {k : PUnit → Prog (TpuEff nD τ sig (Elt F) Λ₀ .tc) α} :
    iprop(records m K ∗ owes (c : Thread nD τ) (O + tallyAt (barCell (hop j c)) () 1) W ∗ tokP (F := F) (payee (none, j) c, (none, j)) ∗ recvFree (F := F) c j.rev)
      ⊢ iprop((owes (c : Thread nD τ) O W -∗ WP c (k ⟨⟩) Q)
        -∗ WP c (.op (.semSignal (n : Thread nD τ) barS (1#32 : BitVec 32).toNat) k) Q) := by
  subst hn
  iintro ⟨#HR, HO, Htok, Hs⟩
  iapply (Rounds.wp_signal 𝒱₀ ER (Rd m) (c : Thread nD τ) none (dst := (hop j c : Thread nD τ)) (κ := K (hop j c, none))
      (d := j.rev) (by rw [duties_bar]; exact Finset.mem_univ _) ((amount_bar m (hop j c) j.rev).trans (by decide)) () O rfl)
  isplitr; · iapply (inv_at m K (hop j c, none)); iexact HR
  isplitl [HO]; · iexact HO
  isplitl [Htok]; · iexact Htok
  isplitl [Hs]
  · rw [payload_bar, hop_rev_hop]; iexact Hs
  iapply (reached_at m K (hop j c, none)); iexact HR

/-- The wait for the three others' signals: a landing slot on each. -/
theorem wp_bar {Q : α → sProp 𝕄} (c : Dev nD) (W : Waits sig Unit) {k : PUnit → Prog (TpuEff nD τ sig (Elt F) Λ₀ .tc) α} :
    iprop(records m K ∗ levAts L lv ∗ cred (tallyAt (barCell c) () 3) ∗ owes (c : Thread nD τ) (OR₃ c) W ∗ atPos ER (barCell c) 0 ∅ 0)
      ⊢ iprop(((owes (c : Thread nD τ) (OR₃ c) (insert (SemLoc.reg barS, ()) W) ∗ atPos ER (barCell c) (0 + 1) ∅ 0
            ∗ recvFree (F := F) (hop 0 c) 0 ∗ recvFree (F := F) (hop 1 c) 1 ∗ recvFree (F := F) (hop 2 c) 2) -∗ WP c (k ⟨⟩) Q)
        -∗ WP c (.op (.semWait barS (3#32 : BitVec 32).toNat) k) Q) := by
  iintro ⟨#HR, #Hlev, Hc, HO, Hat⟩ Hk
  iapply (Rounds.wp_wait_rest_token 𝒱₀ ER (Rd m) (c : Thread nD τ) none (κ := K (c, none))
      (wpE_semWait_eq 𝒱₀ (c : Thread nD τ) none Set.univ) (Set.mem_univ _) () (O := OR₃ c) (W := W) (R := 0) (m := 0) (T := ∅)
      (by rw [expect_bar]; decide)) $$ [Hc HO Hat]
  · isplitr; · iapply (inv_at m K (c, none)); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)) $$ Hpay

/-- The transfer of send slot `j` into landing slot `j` of the device `j + 1` places on. -/
theorem wp_xfer {Q : α → sProp 𝕄} (c n : Dev nD) (j : Fin 3) (hn : n = hop j c) {hsc : (recvM j : Memref sig (Dev.tc n : Thread nD τ).2.kind .vmem S128x512 .bf16).view.ref.isScScratch = false}
    {hsrc : (sendM j).view.WordExact} {hdst : (recvM j : Memref sig (Dev.tc n : Thread nD τ).2.kind .vmem S128x512 .bf16).view.WordExact}
    {hsem : DmaTarget.Typed .vmem (.dma (recvS j)) (.remote (Dev.tc n : Thread nD τ) (recvM j : Memref sig (Dev.tc n : Thread nD τ).2.kind .vmem S128x512 .bf16) (.dma (sendS j)) hsc)}
    (O : CellTallies nD τ sig Unit) (W : Waits sig Unit) {k : PUnit → Prog (TpuEff nD τ sig (Elt F) Λ₀ .tc) α} :
    iprop(records m K ∗ sendHas c j (sent m c j) ∗ recvFree (F := F) (hop j c) j
        ∗ owes (c : Thread nD τ) (O + tallyAt (recvCell j (hop j c)) () N) W
        ∗ tokP (F := F) (payee (some false, j) c, (some false, j)) ∗ tokP (F := F) (payee (some true, j) c, (some true, j)))
      ⊢ iprop(((cred (tallyAt (sendCell j c) () N) ∗ owes (c : Thread nD τ) O W) -∗ WP c (k ⟨⟩) Q)
        -∗ WP c (.op (.enqueueDma (sendM j) (.remote (Dev.tc n : Thread nD τ) (recvM j) (.dma (sendS j)) hsc) (.dma (recvS j)) hsrc hdst hsem) k) Q) := by
  subst hn
  unfold sendHas recvFree
  iintro ⟨#HR, ⟨%fs, %hfs, Hs⟩, ⟨%fd, Hd⟩, HO, Ht1, Ht2⟩
  iapply (Rounds.wp_send_pointsTo 𝒱₀ ER (Rd m) (c : Thread nD τ) none (κ₁ := K (c, some (false, j))) (κ₂ := K (hop j c, some (true, j)))
    (c' := (hop j c : Thread nD τ)) (sp' := .vmem) (src := sendM j) (dst := (recvM j : Memref sig (Dev.tc (hop j c) : Thread nD τ).2.kind .vmem S128x512 .bf16)) (sS := .dma (sendS j)) (sem := .dma (recvS j))
    (r₁ := 0) (r₂ := 0) (d₁ := 0) (d₂ := 0) (fs := fs) (fd := fd) (q := fullShare)
    (by rw [duties_send]; exact Finset.mem_singleton_self _) (by rw [duties_recv]; exact Finset.mem_singleton_self _)
    () () N (N_recv j) (amount_send m c j 0) (amount_recv m (hop j c) j 0) O rfl (W := W)
    (by
      rw [payload_send, sendM_set]; unfold sendFree sendPts
      iintro H; iexists fs; iexact H)
    (by
      rw [payload_recv, recvM_set, got, hop_rev_hop]; unfold recvHas recvPts
      iintro H; iexists _
      isplitr
      · ipureintro; exact (slot_landed j fd fs).trans hfs
      iexact H))
  isplitr; · iapply (inv_at m K (c, some (false, j))); iexact HR
  isplitr; · iapply (inv_at m K (hop j c, some (true, j))); iexact HR
  isplitl [Hs]
  · rw [sendM_set]; unfold sendPts; iexact Hs
  isplitl [Hd]
  · rw [recvM_set]; unfold recvPts; iexact Hd
  isplitl [HO]; · iexact HO
  isplitl [Ht1]; · iexact Ht1
  isplitr; · iapply (reached_at m K (c, some (false, j))); iexact HR
  isplitl [Ht2]; · iexact Ht2
  iapply (reached_at m K (hop j c, some (true, j))); iexact HR

/-- The wait on receive cell `j`: the landing slot with the sender's rows. -/
theorem wp_wait_recv {Q : α → sProp 𝕄} (c : Dev nD) (j : Fin 3) (W : Waits sig Unit) {hs hd} {k : PUnit → Prog (TpuEff nD τ sig (Elt F) Λ₀ .tc) α} :
    iprop(records m K ∗ cred (tallyAt (recvCell j c) () N) ∗ owes (c : Thread nD τ) 0 W ∗ atPos ER (recvCell j c) 0 ∅ 0)
      ⊢ iprop(((owes (c : Thread nD τ) 0 (insert (SemLoc.dma (recvS j), ()) W) ∗ atPos ER (recvCell j c) (0 + 1) ∅ 0
            ∗ recvHas c j (got m c j)) -∗ WP c (k ⟨⟩) Q)
        -∗ WP c (.op (.waitDma2 (recvS j) (sendM j) (recvM j) hs hd) k) Q) := by
  iintro ⟨#HR, Hc, HO, Hat⟩ Hk
  iapply (Rounds.wp_wait_rest_token 𝒱₀ ER (Rd m) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m K (c, some (true, j))); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c j)) $$ Hpay

/-- The wait on send cell `j`: the send slot back. -/
theorem wp_wait_send {Q : α → sProp 𝕄} (c : Dev nD) (j : Fin 3) (W : Waits sig Unit) {hs hd} {k : PUnit → Prog (TpuEff nD τ sig (Elt F) Λ₀ .tc) α} :
    iprop(records m K ∗ cred (tallyAt (sendCell j c) () N) ∗ owes (c : Thread nD τ) 0 W ∗ atPos ER (sendCell j c) 0 ∅ 0)
      ⊢ iprop(((owes (c : Thread nD τ) 0 (insert (SemLoc.dma (sendS j), ()) W) ∗ atPos ER (sendCell j c) (0 + 1) ∅ 0
            ∗ sendFree (F := F) c j) -∗ WP c (k ⟨⟩) Q)
        -∗ WP c (.op (.waitDma2 (sendS j) (recvM j) (sendM j) hs hd) k) Q) := by
  iintro ⟨#HR, Hc, HO, Hat⟩ Hk
  iapply (Rounds.wp_wait_rest_token 𝒱₀ ER (Rd m) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m K (c, some (false, j))); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c j)) $$ Hpay

/-- A cell past its round closes at zero. -/
theorem close_at (c : Dev nD) (x : Cell) : iprop(records m K ∗ atPos ER (kcell (c, x)) (0 + 1) ∅ 0) ⊢ iprop(|={Set.univ}=> semVal (kcell (c, x)) 0 : sProp 𝕄) := by
  iintro ⟨#HR, Hat⟩
  iapply (Rounds.cell_close ER (Rd m) (Set.mem_univ (K (c, x))) (fun h => h) (R := 0 + 1) (duties_later m (kcell (c, x))))
  isplitr; · iapply (inv_at m K (c, x)); iexact HR
  iexact Hat

end Steps

/-! ## The body -/

section Body

variable (K : Dev nD × Cell → ℕ)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The staging buffers before the body: the inputs there, the output's at anything. -/
def stagedIn (c : Dev nD) : sProp 𝕄 :=
  iprop((∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))

def bodyPre (c : Dev nD) : sProp 𝕄 :=
  iprop(((ghost m K c ∗ credits (F := F) c ∗ levAts L lv) ∗ scratch (F := F) c) ∗ (dats m 0 c).owesAt () t0_0.castSucc ∗ stagedIn m c)

def bodyPost (c : Dev nD) : sProp 𝕄 :=
  iprop(Φ₁ (F := F) c ∗ (dats m 0 c).owesAt () t0_0.succ ∗ stg c cc0_stg0_0 (xs m c) ∗ stg c cc0_stg1_0 (rws m c) ∗ stg c cc0_stg2_0 (ids m c)
    ∗ stg c cc0_stg3_0 (ews m c) ∗ stg c cc0_stg4_0 (sws m c) ∗ stg c cc0_stg5_0 (outv m c))

theorem before_0 (c : Dev nD) (d) : (dats m 0 c).before (0 : Fin 6) t0_0 d = xs m c := by unfold Dat.before; rw [if_pos (fetch0_0 t0_0)]; rfl
theorem before_1 (c : Dev nD) (d) : (dats m 0 c).before (1 : Fin 6) t0_0 d = rws m c := by unfold Dat.before; rw [if_pos (fetch0_1 t0_0)]; rfl
theorem before_2 (c : Dev nD) (d) : (dats m 0 c).before (2 : Fin 6) t0_0 d = ids m c := by unfold Dat.before; rw [if_pos (fetch0_2 t0_0)]; rfl
theorem before_3 (c : Dev nD) (d) : (dats m 0 c).before (3 : Fin 6) t0_0 d = ews m c := by unfold Dat.before; rw [if_pos (fetch0_3 t0_0)]; rfl
theorem before_4 (c : Dev nD) (d) : (dats m 0 c).before (4 : Fin 6) t0_0 d = sws m c := by unfold Dat.before; rw [if_pos (fetch0_4 t0_0)]; rfl

set_option maxHeartbeats 4000000 in
set_option maxRecDepth 65536 in
/-- The body, from `bodyPre` to `bodyPost`. -/
theorem sound_body (c : Dev nD) (Kt : PUnit → sProp 𝕄) :
    iprop(bodyPre m K c ∗ (bodyPost m c -∗ Kt ⟨⟩))
      ⊢ WP c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part7_eq_skeleton]; unfold k0_part7_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost credits scratch stagedIn positions payToks
  rw [bigSepCell, bigSepTok]
  iintro ⟨⟨⟨⟨⟨#HR, ⟨HpB, HpS0, HpS1, HpS2, HpV0, HpV1, HpV2⟩, ⟨HtB0, HtB1, HtB2, HtS0, HtS1, HtS2, HtV0, HtV1, HtV2⟩⟩, ⟨HcB, HcV0, HcV1, HcV2⟩, #Hlev⟩,
    ⟨⟨%fp, Hp⟩, ⟨%fs, Hs⟩, ⟨%fr, Hr⟩⟩⟩, Ho,
    ⟨%d0, %g0, %hg0, Hx⟩, ⟨%d1, %g1, %hg1, Hrw⟩, ⟨%d2, %g2, %hg2, Hid⟩, ⟨%d3, %g3, %hg3, Hew⟩, ⟨%d4, %g4, %hg4, Hsw⟩, ⟨%d5, %g5, %hg5, Hout⟩⟩, Hk⟩
  rw [before_0] at hg0; rw [before_1] at hg1; rw [before_2] at hg2; rw [before_3] at hg3; rw [before_4] at hg4
  subst hg0 hg1 hg2 hg3 hg4
  unfold Dat.owesAt Pipeline.owesWithin
  icases Ho with ⟨%W, %hW, HO⟩
  rw [show (dats m 0 c).owed t0_0.castSucc = O₀ c from rfl]
  -- the slots
  ihave Hs := (Entails.of_eq ((send_split c fs).trans (bigSep3 _))) $$ Hs
  icases Hs with ⟨Hs0, Hs1, Hs2⟩
  ihave Hr := (Entails.of_eq ((recv_split c fr).trans (bigSep3 _))) $$ Hr
  icases Hr with ⟨Hr0, Hr1, Hr2⟩
  -- the three signals
  unfold O₀
  iapply (wp_sig m K c _ 0 (dev1_eq c) (OB₂ c) W) $$ [HO HtB0 Hr2]
  · isplitr; · iexact HR
    isplitl [HO]; · iexact HO
    isplitl [HtB0]; · iexact HtB0
    unfold recvFree; iexists fr; iexact Hr2
  iintro HO
  unfold OB₂
  iapply (wp_sig m K c _ 1 (dev2_eq c) (OB₁ c) W) $$ [HO HtB1 Hr1]
  · isplitr; · iexact HR
    isplitl [HO]; · iexact HO
    isplitl [HtB1]; · iexact HtB1
    unfold recvFree; iexists fr; iexact Hr1
  iintro HO
  unfold OB₁
  iapply (wp_sig m K c _ 2 (dev3_eq c) (OR₃ c) W) $$ [HO HtB2 Hr0]
  · isplitr; · iexact HR
    isplitl [HO]; · iexact HO
    isplitl [HtB2]; · iexact HtB2
    unfold recvFree; iexists fr; iexact Hr0
  iintro HO
  -- the inputs and the partial product
  iapply (wp_load 𝒱₀ (c : Thread nD τ) none Set.univ (m := Memref.whole cc0_stg0_0) (Finset.subset_univ _)) $$ Hx; iintro Hx
  rw [read_xs]
  iapply (wp_load 𝒱₀ (c : Thread nD τ) none Set.univ (m := Memref.whole cc0_stg1_0) (Finset.subset_univ _)) $$ Hrw; iintro Hrw
  rw [read_rws]
  iapply (wp_load 𝒱₀ (c : Thread nD τ) none Set.univ (m := Memref.whole cc0_stg2_0) (Finset.subset_univ _)) $$ Hid; iintro Hid
  rw [read_ids]
  iapply (wp_load 𝒱₀ (c : Thread nD τ) none Set.univ (m := Memref.whole cc0_stg3_0) (Finset.subset_univ _)) $$ Hew; iintro Hew
  rw [read_ews]
  iapply (wp_load 𝒱₀ (c : Thread nD τ) none Set.univ (m := part0M) (Finset.subset_univ _)) $$ Hp; iintro Hp
  iapply (wp_store 𝒱₀ (c : Thread nD τ) none Set.univ (m := part0M) (r := Rect.unit (s := S512x512) ![0, 0] S512x512.size inb_S512x512_S512x512_0_0) (Mk := Finset.univ) (Finset.subset_univ _)) $$ Hp; iintro Hp
  rw [write_part]
  rw [part_eq]
  -- the send slots filled
  iapply (wp_load 𝒱₀ (c : Thread nD τ) none Set.univ (m := part0M) (Finset.subset_univ _)) $$ Hp; iintro Hp
  rw [read_rowsFor1]
  iapply (wp_load_send c 1 fs) $$ Hs1; iintro Hs1
  iapply (wp_store_send c 1 _ fs) $$ Hs1; iintro Hs1
  iapply (wp_load 𝒱₀ (c : Thread nD τ) none Set.univ (m := part0M) (Finset.subset_univ _)) $$ Hp; iintro Hp
  rw [read_rowsFor0]
  iapply (wp_load_send c 0 fs) $$ Hs0; iintro Hs0
  iapply (wp_store_send c 0 _ fs) $$ Hs0; iintro Hs0
  iapply (wp_load 𝒱₀ (c : Thread nD τ) none Set.univ (m := part0M) (Finset.subset_univ _)) $$ Hp; iintro Hp
  rw [read_rowsFor2]
  iapply (wp_load_send c 2 fs) $$ Hs2; iintro Hs2
  iapply (wp_store_send c 2 _ fs) $$ Hs2; iintro Hs2
  -- the barrier
  iapply (wp_bar m K c W) $$ [HcB HO HpB]
  · isplitr; · iexact HR
    isplitr; · iexact Hlev
    isplitl [HcB]; · iexact HcB
    isplitl [HO]; · iexact HO
    iexact HpB
  iintro ⟨HO, HpB, Hd0, Hd1, Hd2⟩
  -- the transfers
  unfold OR₃
  iapply (wp_xfer m K c _ 1 (dev4_eq c) (OR₂ c) _) $$ [Hs1 Hd1 HO HtS1 HtV1]
  · isplitr; · iexact HR
    isplitl [Hs1]; · iexact Hs1
    isplitl [Hd1]; · iexact Hd1
    isplitl [HO]; · iexact HO
    isplitl [HtS1] <;> iassumption
  iintro ⟨HcS1, HO⟩
  unfold OR₂
  iapply (wp_xfer m K c _ 0 (dev5_eq c) (OR₁ c) _) $$ [Hs0 Hd0 HO HtS0 HtV0]
  · isplitr; · iexact HR
    isplitl [Hs0]; · iexact Hs0
    isplitl [Hd0]; · iexact Hd0
    isplitl [HO]; · iexact HO
    isplitl [HtS0] <;> iassumption
  iintro ⟨HcS0, HO⟩
  unfold OR₁
  iapply (wp_xfer m K c _ 2 (dev6_eq c) 0 _) $$ [Hs2 Hd2 HO HtS2 HtV2]
  · isplitr; · iexact HR
    isplitl [Hs2]; · iexact Hs2
    isplitl [Hd2]; · iexact Hd2
    isplitl [HO]; · iexact HO
    isplitl [HtS2] <;> iassumption
  iintro ⟨HcS2, HO⟩
  -- the shared expert
  iapply (wp_load 𝒱₀ (c : Thread nD τ) none Set.univ (m := Memref.whole cc0_stg0_0) (Finset.subset_univ _)) $$ Hx; iintro Hx
  rw [read_ownX]
  iapply (wp_load 𝒱₀ (c : Thread nD τ) none Set.univ (m := Memref.whole cc0_stg4_0) (Finset.subset_univ _)) $$ Hsw; iintro Hsw
  rw [read_sws]
  iapply (wp_load 𝒱₀ (c : Thread nD τ) none Set.univ (m := part0M) (Finset.subset_univ _)) $$ Hp; iintro Hp
  rw [read_ownRows]
  -- the rows of the others
  iapply (wp_wait_recv m K c 0 _) $$ [HcV0 HO HpV0]
  · isplitr; · iexact HR
    isplitl [HcV0]; · iexact HcV0
    isplitl [HO]; · iexact HO
    iexact HpV0
  iintro ⟨HO, HpV0, Hr0⟩
  iapply (wp_load_recv c 0 (got m c 0)) $$ Hr0; iintro Hr0
  iapply (wp_wait_recv m K c 1 _) $$ [HcV1 HO HpV1]
  · isplitr; · iexact HR
    isplitl [HcV1]; · iexact HcV1
    isplitl [HO]; · iexact HO
    iexact HpV1
  iintro ⟨HO, HpV1, Hr1⟩
  iapply (wp_load_recv c 1 (got m c 1)) $$ Hr1; iintro Hr1
  iapply (wp_wait_recv m K c 2 _) $$ [HcV2 HO HpV2]
  · isplitr; · iexact HR
    isplitl [HcV2]; · iexact HcV2
    isplitl [HO]; · iexact HO
    iexact HpV2
  iintro ⟨HO, HpV2, Hr2⟩
  iapply (wp_load_recv c 2 (got m c 2)) $$ Hr2; iintro Hr2
  iapply (wp_load 𝒱₀ (c : Thread nD τ) none Set.univ (m := outM) (Finset.subset_univ _)) $$ Hout; iintro Hout
  iapply (wp_store 𝒱₀ (c : Thread nD τ) none Set.univ (m := outM) (r := Rect.unit (s := S128x512) ![0, 0] S128x512.size inb_S128x512_S128x512_0_0) (Mk := Finset.univ) (Finset.subset_univ _)) $$ Hout; iintro Hout
  rw [write_out]
  -- the send slots back
  iapply (wp_wait_send m K c 0 _) $$ [HcS0 HO HpS0]
  · isplitr; · iexact HR
    isplitl [HcS0]; · iexact HcS0
    isplitl [HO]; · iexact HO
    iexact HpS0
  iintro ⟨HO, HpS0, Hs0⟩
  iapply (wp_wait_send m K c 1 _) $$ [HcS1 HO HpS1]
  · isplitr; · iexact HR
    isplitl [HcS1]; · iexact HcS1
    isplitl [HO]; · iexact HO
    iexact HpS1
  iintro ⟨HO, HpS1, Hs1⟩
  iapply (wp_wait_send m K c 2 _) $$ [HcS2 HO HpS2]
  · isplitr; · iexact HR
    isplitl [HcS2]; · iexact HcS2
    isplitl [HO]; · iexact HO
    iexact HpS2
  iintro ⟨HO, HpS2, Hs2⟩
  -- every cell closes
  imod (close_at m K c none) $$ [HpB] with HzB
  · isplitr; · iexact HR
    iexact HpB
  imod (close_at m K c (some (false, 0))) $$ [HpS0] with HzS0
  · isplitr; · iexact HR
    iexact HpS0
  imod (close_at m K c (some (false, 1))) $$ [HpS1] with HzS1
  · isplitr; · iexact HR
    iexact HpS1
  imod (close_at m K c (some (false, 2))) $$ [HpS2] with HzS2
  · isplitr; · iexact HR
    iexact HpS2
  imod (close_at m K c (some (true, 0))) $$ [HpV0] with HzV0
  · isplitr; · iexact HR
    iexact HpV0
  imod (close_at m K c (some (true, 1))) $$ [HpV1] with HzV1
  · isplitr; · iexact HR
    iexact HpV1
  imod (close_at m K c (some (true, 2))) $$ [HpV2] with HzV2
  · isplitr; · iexact HR
    iexact HpV2
  rw [wp_ret]; imodintro
  iapply Hk
  unfold bodyPost Φ₁ scratch zeros Dat.owesAt Pipeline.owesWithin
  rw [show (dats m 0 c).owed t0_0.succ = 0 from rfl, bigSepCell]
  isplitl [Hp Hs0 Hs1 Hs2 Hr0 Hr1 Hr2 HzB HzS0 HzS1 HzS2 HzV0 HzV1 HzV2]
  · isplitl [Hp Hs0 Hs1 Hs2 Hr0 Hr1 Hr2]
    · isplitl [Hp]; · iexists _; iexact Hp
      isplitl [Hs0 Hs1 Hs2]
      · iapply (send_join c)
        isplitl [Hs0]; · iexact Hs0
        isplitl [Hs1] <;> iassumption
      iapply (recv_join c)
      unfold recvHas recvFree
      icases Hr0 with ⟨%e0, -, Hr0⟩
      icases Hr1 with ⟨%e1, -, Hr1⟩
      icases Hr2 with ⟨%e2, -, Hr2⟩
      isplitl [Hr0]; · iexists e0; iexact Hr0
      isplitl [Hr1]; · iexists e1; iexact Hr1
      iexists e2; iexact Hr2
    isplitl [HzB]; · iexact HzB
    isplitl [HzS0]; · iexact HzS0
    isplitl [HzS1]; · iexact HzS1
    isplitl [HzS2]; · iexact HzS2
    isplitl [HzV0]; · iexact HzV0
    isplitl [HzV1] <;> iassumption
  isplitl [HO]
  · iexists (insert (SemLoc.dma (sendS 2), ()) (insert (SemLoc.dma (sendS 1), ()) (insert (SemLoc.dma (sendS 0), ())
      (insert (SemLoc.dma (recvS 2), ()) (insert (SemLoc.dma (recvS 1), ()) (insert (SemLoc.dma (recvS 0), ()) (insert (SemLoc.reg barS, ()) W)))))))
    isplitr; · ipureintro; exact fun _ _ => Or.inl trivial
    iexact HO
  isplitl [Hx]; · iexists _; isplitr; · (ipureintro; rfl)
                  iexact Hx
  isplitl [Hrw]; · iexists _; isplitr; · (ipureintro; rfl)
                   iexact Hrw
  isplitl [Hid]; · iexists _; isplitr; · (ipureintro; rfl)
                   iexact Hid
  isplitl [Hew]; · iexists _; isplitr; · (ipureintro; rfl)
                   iexact Hew
  isplitl [Hsw]; · iexists _; isplitr; · (ipureintro; rfl)
                   iexact Hsw
  iexists _; isplitr; · (ipureintro; rfl)
  iexact Hout

end Body

end Cert.KernelIdealProof
-- ==== Proof.KernelIdealRun.lean ====
/-
The launch on the four devices: the ghost state is dealt out, every device runs its body, and the run ends
with each device's result block computed, its arguments unchanged and every semaphore at zero.
-/
module

public import proofs.«01_k».proof.Proof.KernelIdealBody
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

def bodyPre' (c : Dev nD) : sProp 𝕄 := iprop(Φ₀ m c ∗ (dats m 0 c).owesAt () t0_0.castSucc ∗ stagedIn m c)

set_option maxRecDepth 8000 in
/-- The pipeline's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre' m c ⊢ WP c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) (fun _ => bodyPost m c)
  unfold bodyPre' Φ₀ start
  iintro ⟨⟨⟨⟨%K, Hg⟩, Hc, Hl⟩, Hscr⟩, Ho, Hst⟩
  iapply (sound_body m K c fun _ => bodyPost m c)
  unfold bodyPre
  isplitr []
  · isplitl [Hg Hc Hl Hscr]
    · isplitl [Hg Hc Hl]
      · isplitl [Hg]; · iexact Hg
        isplitl [Hc] <;> iassumption
      iexact Hscr
    isplitl [Ho] <;> iassumption
  · iintro H; iexact H

/-! ## What the launch mints -/

/-- The kernel's own semaphores: the send ones, then the receive ones. -/
def osem : Fin 6 → SemLoc sig
  | 0 => .dma (sendS 0) | 1 => .dma (sendS 1) | 2 => .dma (sendS 2)
  | 3 => .dma (recvS 0) | 4 => .dma (recvS 1) | 5 => .dma (recvS 2)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_inj (congrArg Prod.snd h)
  rw [h1, h2]

theorem kcell_eq_iff {a b : Dev nD × Cell} : Iff (kcell a = kcell b) (a = b) := kcell_injective.eq_iff

def ringCells : Finset (GSem nD τ sig) := Finset.univ.map ⟨kcell, kcell_injective⟩

/-- The cell a token belongs to. -/
def tokCell : Tok → Cell
  | (none, _) => none
  | (some b, k) => some (b, k)
/-- The duty it stands for. -/
def tokDuty : Tok → Fin 3
  | (none, k) => k.rev
  | (some _, _) => 0

theorem tokOf_eq (p : Dev nD × Tok) : tokOf p = (kcell (p.1, tokCell p.2), 0, tokDuty p.2) := by
  rcases p with ⟨c, _ | _ | _, k⟩ <;> rfl

theorem tok_inj : Function.Injective (fun t : Tok => (tokCell t, tokDuty t)) := by decide

theorem tokOf_injective : Function.Injective tokOf := by
  rintro ⟨c, t⟩ ⟨c', t'⟩ h
  rw [tokOf_eq, tokOf_eq] at h
  have h1 := kcell_injective (congrArg Prod.fst h)
  have h2 : tokDuty t = tokDuty t' := congrArg (fun x : GSem nD τ sig × ℕ × Fin 3 => x.2.2) h
  have h3 : tokCell t = tokCell t' := congrArg Prod.snd h1
  have h4 : t = t' := tok_inj (Prod.ext h3 h2)
  have h5 : c = c' := congrArg Prod.fst h1
  rw [h4, h5]

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 := bigSep Finset.univ fun t : Tok => tokP (F := F) (c, t)

/-- What the launch deals device `c`. -/
def G (c : Dev nD) : sProp 𝕄 :=
  iprop((bigSep Finset.univ fun k : Cell => roundState ER (Rd m) (kcell (c, k)) 0)
    ∗ (bigSep Finset.univ fun k : Cell => iprop(atPos ER (kcell (c, k)) 0 ∅ 0 ∗ reached ER (kcell (c, k)) 0)) ∗ toks (F := F) c)

/-- What the device's body needs of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (kcell (c, some (false, 0))) 0 ∗ semVal (kcell (c, some (false, 1))) 0 ∗ semVal (kcell (c, some (false, 2))) 0
      ∗ semVal (kcell (c, some (true, 0))) 0 ∗ semVal (kcell (c, some (true, 1))) 0 ∗ semVal (kcell (c, some (true, 2))) 0) := by
  rw [Pipeline.ownSems0_eq_of_list c osem [0, 1, 2, 3, 4, 5] (by decide) (by decide)]; rfl
/-- The barrier is the launch's one semaphore outside the kernel's own. -/
theorem unscopedSems0_eq (c : Dev nD) : (unscopedSems0 c : sProp 𝕄) = semVal (kcell (c, none)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (zeros (F := F) c : sProp 𝕄) := by
  rw [ownSems0_eq, unscopedSems0_eq]
  unfold zeros
  rw [bigSepCell]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  unfold zeros
  imod (show iprop((bigSep Finset.univ fun k : Cell => semVal (kcell (c, k)) 0) ∗ bigSep Finset.univ fun k : Cell => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Dealing the tokens: each to the device that pays with it. -/
def deal : Dev nD × Tok ≃ Dev nD × Tok where
  toFun p := (payee p.2 p.1, p.2)
  invFun p := (match p.2 with | (some false, _) => p.1 | (_, k) => hop k.rev p.1, p.2)
  left_inv := by rintro ⟨c, _ | _ | _, k⟩ <;> simp only [payee, hop_rev_hop]
  right_inv := by rintro ⟨c, _ | _ | _, k⟩ <;> simp only [payee, hop_hop_rev]

theorem toks_around : (bigSep Finset.univ fun c : Dev nD => (toks (F := F) c : sProp 𝕄)) = bigSep Finset.univ fun c : Dev nD => payToks (F := F) c := by
  unfold toks payToks
  rw [← bigSep_univ_prod (fun p : Dev nD × Tok => tokP (F := F) p), bigSep_univ_equiv deal (fun p : Dev nD × Tok => tokP (F := F) p), bigSep_univ_prod]
  rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Cell => iprop(∃ κ : ℕ, cellInv ER (Rd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄)), toks_around]
  iintro ⟨HI, ⟨Hat, #HR⟩, Htok⟩
  ihave HK := (BI.bigSep_exists_pi Finset.univ (fun (ck : Dev nD × Cell) (κ : ℕ) => (cellInv ER (Rd m) κ (kcell ck) : sProp 𝕄))) $$ HI
  icases HK with ⟨%K, #HI⟩
  iapply (bigSep_with_persistent (R := records m K) (Φ := fun c => iprop(positions (F := F) c ∗ payToks (F := F) c)) fun c _ => by
    unfold G' ghost
    iintro H; iexists K; iexact H)
  isplitr
  · unfold records; isplitl; · iexact HI
    iexact HR
  · rw [bigSep_sep']
    isplitl [Hat]; · unfold positions; iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What `n` units owed by `d` at cell `x` of the device `k + 1` places on are at cell `y` of device `c`. -/
theorem tally_hop (k : Fin 3) (d c : Dev nD) (x y : Cell) (n : ℕ) :
    tallyAt (kcell (hop k d, x)) () n (kcell (c, y)) () = if d = hop k.rev c then (if y = x then n else 0) else 0 := by
  rw [tallyAt_apply]
  by_cases h : d = hop k.rev c
  · subst h
    rw [hop_hop_rev, if_pos rfl]
    by_cases hx : y = x
    · subst hx; rw [if_pos ⟨rfl, rfl⟩, if_pos rfl]
    · rw [if_neg (fun h' => hx (congrArg Prod.snd (kcell_injective h'.1))), if_neg hx]
  · rw [if_neg h, if_neg]
    rintro ⟨h', -⟩
    have h1 : c = hop k d := congrArg Prod.fst (kcell_injective h')
    exact h (by rw [h1, hop_rev_hop])

theorem owed_at (d c : Dev nD) (y : Cell) : O₀ d (kcell (c, y)) ()
    = (if d = hop 0 c then (if y = some (true, 2) then N else 0) else 0) + (if d = hop 2 c then (if y = some (true, 0) then N else 0) else 0)
      + (if d = hop 1 c then (if y = some (true, 1) then N else 0) else 0) + (if d = hop 0 c then (if y = none then 1 else 0) else 0)
      + (if d = hop 1 c then (if y = none then 1 else 0) else 0) + (if d = hop 2 c then (if y = none then 1 else 0) else 0) := by
  unfold O₀ OB₂ OB₁ OR₃ OR₂ OR₁
  simp only [Pi.add_apply, Finsupp.add_apply, Pi.zero_apply, Finsupp.zero_apply, Nat.zero_add]
  have e := fun (k : Fin 3) (x : Cell) (n : ℕ) => tally_hop k d c x y n
  have h0 := e 2 (some (true, 2)) N
  have h1 := e 0 (some (true, 0)) N
  have h2 := e 1 (some (true, 1)) N
  have h3 := e 2 none 1
  have h4 := e 1 none 1
  have h5 := e 0 none 1
  exact congrArg₂ (· + ·) (congrArg₂ (· + ·) (congrArg₂ (· + ·) (congrArg₂ (· + ·) (congrArg₂ (· + ·) h0 h1) h2) h3) h4) h5

theorem launch_at (c : Dev nD) (y : Cell) : launchCredit (Pipeline.owing O₀) 0 (kcell (c, y)) ()
    = (if y = some (true, 2) then N else 0) + (if y = some (true, 0) then N else 0) + (if y = some (true, 1) then N else 0)
      + (if y = none then 1 else 0) + (if y = none then 1 else 0) + (if y = none then 1 else 0) := by
  rw [Pipeline.launchCredit_owing, Finset.sum_congr rfl fun d _ => owed_at d c y]
  simp only [Finset.sum_add_distrib, Finset.sum_ite_eq', Finset.mem_univ, if_true]

theorem launch_tally (c : Dev nD) (y : Cell) (n : ℕ)
    (h : (if y = some (true, 2) then N else 0) + (if y = some (true, 0) then N else 0) + (if y = some (true, 1) then N else 0)
      + (if y = none then 1 else 0) + (if y = none then 1 else 0) + (if y = none then 1 else 0) = n) :
    tallyOn (kcell (c, y)) (launchCredit (Pipeline.owing O₀) 0 (kcell (c, y))) = (tallyAt (kcell (c, y)) () n : CellTallies nD τ sig Unit) := by
  unfold tallyAt; refine congrArg _ (Finsupp.ext fun u => ?_); cases u
  rw [launch_at, h, Finsupp.single_eq_same]

theorem launch_bar (c : Dev nD) :
    tallyOn (barCell c) (launchCredit (Pipeline.owing O₀) 0 (barCell c)) = (tallyAt (barCell c) () 3 : CellTallies nD τ sig Unit) :=
  launch_tally c none 3 (by decide)
theorem launch_recv (c : Dev nD) (k : Fin 3) :
    tallyOn (recvCell k c) (launchCredit (Pipeline.owing O₀) 0 (recvCell k c)) = (tallyAt (recvCell k c) () N : CellTallies nD τ sig Unit) :=
  launch_tally c (some (true, k)) N (by
    generalize N = n
    fin_cases k <;> simp)

theorem creds (c : Dev nD) : (Pipeline.launchCred O₀ c : sProp 𝕄) ⊢ credits (F := F) c := by
  have hne : ∀ k : Fin 3, (SemLoc.dma (recvS k) : SemLoc sig) ≠ .reg barS := fun k h => by cases h
  have h01 : (SemLoc.dma (recvS 1) : SemLoc sig) ≠ .dma (recvS 0) := by decide
  have h02 : (SemLoc.dma (recvS 2) : SemLoc sig) ≠ .dma (recvS 0) := by decide
  have h12 : (SemLoc.dma (recvS 2) : SemLoc sig) ≠ .dma (recvS 1) := by decide
  unfold Pipeline.launchCred credits
  rw [bigSep_univ_at _ (SemLoc.reg barS), launch_bar]
  refine sep_mono_right ?_
  rw [bigSep_erase (Finset.mem_erase.mpr ⟨hne 0, Finset.mem_univ _⟩), launch_recv c 0]
  refine sep_mono_right ?_
  rw [bigSep_erase (Finset.mem_erase.mpr ⟨h01, Finset.mem_erase.mpr ⟨hne 1, Finset.mem_univ _⟩⟩), launch_recv c 1]
  refine sep_mono_right ?_
  rw [← launch_recv c 2]
  exact bigSep_elim (Finset.mem_erase.mpr ⟨h12, Finset.mem_erase.mpr ⟨h02, Finset.mem_erase.mpr ⟨hne 2, Finset.mem_univ _⟩⟩⟩)

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq, ownSems0_eq, unscopedSems0_eq]
  unfold Φ₁ scratch zeros
  rw [bigSepCell]
  iintro ⟨Hr, HB, HS⟩
  isplitl [HB]; · iexact HB
  isplitl [HS]; · iexact HS
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters every weakly fair run of the four devices ends, each device's arrays at the
    computed contents and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final arrays -/

theorem finalA_0 (c : Dev nD) : finalA m c (0 : Fin 6) = m ((c : Thread nD τ).loc main_arg0) := (dats (F := F) m 0 c).arrAt_in (0 : Fin 6) rfl _
theorem finalA_1 (c : Dev nD) : finalA m c (1 : Fin 6) = m ((c : Thread nD τ).loc main_arg1) := (dats (F := F) m 0 c).arrAt_in (1 : Fin 6) rfl _
theorem finalA_2 (c : Dev nD) : finalA m c (2 : Fin 6) = m ((c : Thread nD τ).loc main_arg2) := (dats (F := F) m 0 c).arrAt_in (2 : Fin 6) rfl _
theorem finalA_3 (c : Dev nD) : finalA m c (3 : Fin 6) = m ((c : Thread nD τ).loc main_arg3) := (dats (F := F) m 0 c).arrAt_in (3 : Fin 6) rfl _
theorem finalA_4 (c : Dev nD) : finalA m c (4 : Fin 6) = m ((c : Thread nD τ).loc main_arg4) := (dats (F := F) m 0 c).arrAt_in (4 : Fin 6) rfl _

/-- The run ends with every argument unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 0).trans (finalA_0 m c), (h.1 c 1).trans (finalA_1 m c), (h.1 c 2).trans (finalA_2 m c),
    (h.1 c 3).trans (finalA_3 m c), (h.1 c 4).trans (finalA_4 m c)⟩, h.2⟩) (run_main m ρ)

end Cert.KernelIdealProof
-- ==== Proof.Softmax.lean ====
/- The extended reals of the router: a softmax over finitely many scores whose greatest is a number has entries that
   are numbers, none of them negative; and such a number may be moved through a finite sum of products. -/
module

public import Idealize.ShloMosaic.PureOps.Ideal
public import Idealize.ShloMosaic.PureOps.Ideal.Laws
public import Idealize.ShloMosaic.Lib.ValueIdx

@[expose] public section

noncomputable section

namespace Cert.Softmax

open Idealize.ShloMosaic

theorem exp_nonneg (a : EReal) : 0 ≤ Ideal.exp a := by
  induction a with
  | bot => exact le_rfl
  | coe r => exact EReal.coe_nonneg.2 (Real.exp_pos r).le
  | top => exact le_top

theorem exp_zero : Ideal.exp 0 = 1 := by
  show ((Real.exp 0 : ℝ) : EReal) = 1
  rw [Real.exp_zero]; rfl

theorem exp_ne_top {a : EReal} (h : a ≠ ⊤) : Ideal.exp a ≠ ⊤ := by
  induction a with
  | bot => exact EReal.zero_ne_top
  | coe r => exact EReal.coe_ne_top _
  | top => exact absurd rfl h

/-- The product of two numbers that are not negative is one. -/
theorem mul_number {a b : EReal} (ha : 0 ≤ a) (ha' : a ≠ ⊤) (hb : 0 ≤ b) (hb' : b ≠ ⊤) : 0 ≤ a * b ∧ a * b ≠ ⊤ := by
  lift a to ℝ using ⟨ha', (lt_of_lt_of_le EReal.bot_lt_zero ha).ne'⟩
  lift b to ℝ using ⟨hb', (lt_of_lt_of_le EReal.bot_lt_zero hb).ne'⟩
  rw [← EReal.coe_mul]
  exact ⟨EReal.coe_nonneg.2 (mul_nonneg (EReal.coe_nonneg.1 ha) (EReal.coe_nonneg.1 hb)), EReal.coe_ne_top _⟩

/-- A softmax entry is a number and not negative, when the greatest score is a number. -/
theorem entry_number {n : ℕ} (s : Fin n → EReal) (M : EReal) (hM : M = (Finset.univ : Finset (Fin n)).fold max ⊥ s)
    (ht : M ≠ ⊤) (hb : M ≠ ⊥) (e : Fin n) :
    0 ≤ Ideal.div (Ideal.exp (s e - M)) (∑ k, Ideal.exp (s k - M))
      ∧ Ideal.div (Ideal.exp (s e - M)) (∑ k, Ideal.exp (s k - M)) ≠ ⊤ := by
  have hle : ∀ k, s k ≤ M := fun k => by
    rw [hM]; exact (Finset.le_fold_max _).2 (.inr ⟨k, Finset.mem_univ k, le_rfl⟩)
  obtain ⟨k₀, hk₀⟩ : ∃ k, s k = M := by
    rcases (Finset.le_fold_max M).1 hM.le with h | ⟨k, -, h⟩
    · exact absurd (le_bot_iff.1 h) hb
    · exact ⟨k, le_antisymm (hle k) h⟩
  have hone : Ideal.exp (s k₀ - M) = 1 := by
    rw [hk₀, EReal.sub_self ht hb, exp_zero]
  have hS : 1 ≤ ∑ k, Ideal.exp (s k - M) := by
    rw [← hone]
    exact Finset.single_le_sum (f := fun k => Ideal.exp (s k - M)) (fun k _ => exp_nonneg _) (Finset.mem_univ k₀)
  have hS0 : ∑ k, Ideal.exp (s k - M) ≠ 0 := fun h => by
    rw [h] at hS; exact absurd hS (not_le.2 zero_lt_one)
  have hse : s e - M ≠ ⊤ := by
    have hs : s e ≠ ⊤ := fun h => ht (top_le_iff.1 (h ▸ hle e))
    lift M to ℝ using ⟨ht, hb⟩
    rw [sub_eq_add_neg, ← EReal.coe_neg]
    exact EReal.add_ne_top hs (EReal.coe_ne_top _)
  unfold Ideal.div
  rw [if_neg hS0]
  exact mul_number (exp_nonneg _) (exp_ne_top hse) (EReal.inv_nonneg_of_nonneg (zero_le_one.trans hS)) (EReal.inv_lt_top _).ne

/-- A number that is not negative goes through a finite sum. -/
theorem mul_sum_number {ι : Type} (t : Finset ι) (f : ι → EReal) {p : EReal} (h : 0 ≤ p) (h' : p ≠ ⊤) :
    p * ∑ k ∈ t, f k = ∑ k ∈ t, p * f k := by
  classical
  induction t using Finset.induction_on with
  | empty => simp
  | insert a t ha ih => rw [Finset.sum_insert ha, Finset.sum_insert ha, EReal.left_distrib_of_nonneg_of_ne_top h h', ih]

/-- The word of minus infinity and of infinity, read as extended reals. -/
theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]

end Cert.Softmax

end
-- ==== Proof.ReferenceValue.lean ====
/- The reference's result at one index: the shared expert's product plus, for a token whose expert exists, that
   expert's probability times the product with its weights. -/
module

public import proofs.«01_k».proof.Proof.Gen.ReferenceIdeal.Read
public import proofs.«01_k».proof.Proof.Softmax
public import Idealize.ShloMosaic.Lib.StableHlo.Predicate

@[expose] public section

noncomputable section

namespace Cert.ReferenceValue

open Cert.ReferenceIdeal Cert.ReferenceIdeal.Gen Cert.ReferenceIdeal.Read Idealize.ShloMosaic Idealize.ShloMosaic.ValueIdx

abbrev XA := (⟨S512x256, .f32⟩ : BufTy).Contents (Elt Ideal)
abbrev RA := (⟨S256x16, .f32⟩ : BufTy).Contents (Elt Ideal)
abbrev IA := (⟨S512x1, .i32⟩ : BufTy).Contents (Elt Ideal)
abbrev WA := (⟨S16x256x512, .f32⟩ : BufTy).Contents (Elt Ideal)
abbrev SA := (⟨S256x512, .f32⟩ : BufTy).Contents (Elt Ideal)

variable (x0 : XA) (x1 : RA) (x2 : IA) (x3 : WA) (x4 : SA)

/-- The score of token `r` for expert `e`, the token's greatest score, and its probability of `e`. -/
abbrev score (r : Fin 512) (e : Fin 16) : EReal := ∑ k : Fin 256, x0 (ix2 r k) * x1 (ix2 k e)
abbrev top (r : Fin 512) : EReal := (Finset.univ : Finset (Fin 16)).fold max ⊥ (score x0 x1 r)
abbrev prob (r : Fin 512) (e : Fin 16) : EReal :=
  Ideal.div (Ideal.exp (score x0 x1 r e - top x0 x1 r)) (∑ k, Ideal.exp (score x0 x1 r k - top x0 x1 r))

theorem v0_at (r : Fin 512) (e : Fin 16) : val_main_v0 (F := Ideal) x0 x1 (ix2 r e) = score x0 x1 r e := by
  rw [val_main_v0_apply]
  refine Finset.sum_congr rfl fun k _ => ?_
  rw [show lidx_main_v0 (ix2 r e) k = ix2 r k from (eq_ix2 _).trans rfl, show ridx_main_v0 (ix2 r e) k = ix2 k e from (eq_ix2 _).trans rfl]

theorem reduces_S512x16 : S512x16.Reduces [1] S512 := by decide

theorem lift_S512x16 (r : Fin 512) (k : Fin 16) : reduces_S512x16.lift (ix1 r) k = ix2 r k :=
  funext fun a => match a with | ⟨0, _⟩ => rfl | ⟨1, _⟩ => rfl

theorem v1_at (r : Fin 512) : val_main_v1 (F := Ideal) x0 x1 (ix1 r) = top x0 x1 r := by
  unfold val_main_v1
  rw [Host.reduce_eq_fold_single FloatOps.maximumf _ _ _ reduces_S512x16]
  show Finset.fold max (Ideal.ofBits .f32 0xFF800000#32) _ _ = _
  rw [Softmax.ofBits_neg_inf]
  refine Finset.fold_congr fun k _ => ?_
  exact (congrArg _ (lift_S512x16 r k)).trans (v0_at x0 x1 r k)

theorem v5_at (r : Fin 512) (e : Fin 16) : val_main_v5 (F := Ideal) x0 x1 (ix2 r e) = Ideal.exp (score x0 x1 r e - top x0 x1 r) := by
  rw [val_main_v5_apply, val_main_v4_apply, val_main_v3_apply, val_main_v2_apply, v0_at,
    show idx_main_v2 (idx_main_v3 (ix2 r e)) = ix1 r from (eq_ix1 _).trans rfl, v1_at]
  rfl

theorem v9_at (r : Fin 512) (e : Fin 16) : val_main_v9 (F := Ideal) x0 x1 (ix2 r e) = prob x0 x1 r e := by
  rw [val_main_v9_apply, val_main_v8_apply, val_main_v7_apply, v5_at,
    show idx_main_v7 (idx_main_v8 (ix2 r e)) = ix1 r from (eq_ix1 _).trans rfl, val_main_v6_apply]
  have hs : ∑ k : Fin 16, val_main_v5 (F := Ideal) x0 x1 (idx_main_v6 (ix1 r) k) = ∑ k, Ideal.exp (score x0 x1 r k - top x0 x1 r) :=
    Finset.sum_congr rfl fun k _ => (congrArg _ ((eq_ix2 _).trans rfl)).trans (v5_at x0 x1 r k)
  rw [hs]
  show Ideal.div _ (Ideal.ofBits .f32 0x00000000#32 + _) = _
  rw [Ideal.ofBits_zero_f32, zero_add]

/-! ## The token's own probability -/

theorem wrapped (e : Fin 16) : Scalar.select (IntOp.cmpi .slt (BitVec.ofNat 32 e.val) 0#32) (IntOp.addi (BitVec.ofNat 32 e.val) 16#32) (BitVec.ofNat 32 e.val)
    = BitVec.ofNat 32 e.val := by revert e; decide

theorem call0_v5_at (r : Fin 512) (e : Fin 16) (h : x2 (ix2 r 0) = BitVec.ofNat 32 e.val) :
    val_main_call0_v5 (F := Ideal) x2 (ix3 r 0 0) = BitVec.ofNat 32 e.val := by
  rw [val_main_call0_v5_apply, val_main_call0_v4_apply, val_main_call0_v3_apply, val_main_call0_v1_apply, val_main_call0_v0_apply,
    val_main_call0_v2_apply, val_main_call0_c_apply, val_main_call0_c_0_apply,
    show idx_main_call0_v5 (ix3 r 0 0) = ix2 r 0 from (eq_ix2 _).trans (by
      rw [show idx_main_call0_v5 (ix3 r 0 0) 0 = r from Fin.ext (by show ((r.val * 1 + 0) * 1 + 0) / 1 = r.val; omega)]; rfl), h]
  exact wrapped e

theorem call0_v13_at (r : Fin 512) (e : Fin 16) (h : x2 (ix2 r 0) = BitVec.ofNat 32 e.val) :
    val_main_call0_v13 (F := Ideal) x0 x1 x2 (ix2 r 0) = val_main_v9 (F := Ideal) x0 x1 (ix2 r e) := by
  have hidx := call0_v5_at x2 r e h
  unfold val_main_call0_v13 Host.gather
  generalize val_main_call0_v5 (F := Ideal) x2 = idx at hidx ⊢
  refine congrArg _ (funext fun a => Fin.ext ?_)
  show gather_S512x16_S512x1x1_S512x1_n_1_0_0_1_2_11.start (ix2 r 0) idx a
    + gather_S512x16_S512x1x1_S512x1_n_1_0_0_1_2_11.batchCoord (ix2 r 0) a
    + gather_S512x16_S512x1x1_S512x1_n_1_0_0_1_2_11.offCoord (ix2 r 0) a = _
  rw [GatherDims.offCoord_eq_zero _ _ a (fun hk => by
    have := (GatherDims.mem_sKept _ _).mp hk
    match a with
    | ⟨0, _⟩ => exact this.2 (List.mem_singleton.2 rfl)
    | ⟨1, _⟩ => exact this.1 (List.mem_singleton.2 rfl))]
  match a with
  | ⟨0, _⟩ =>
    rw [GatherDims.start_batching _ _ _ _ (List.mem_singleton.2 rfl)]
    simp only [Nat.zero_add, Nat.add_zero]
    unfold GatherDims.batchCoord
    rw [dif_pos (show (⟨0, by decide⟩ : Fin S512x16.rank) ∈ gather_S512x16_S512x1x1_S512x1_n_1_0_0_1_2_11.operandBatchingDims from List.mem_singleton.2 rfl)]
    rfl
  | ⟨1, _⟩ =>
    rw [GatherDims.batchCoord_eq_zero _ _ _ (show (⟨1, by decide⟩ : Fin S512x16.rank) ∉ gather_S512x16_S512x1x1_S512x1_n_1_0_0_1_2_11.operandBatchingDims by decide)]
    simp only [Nat.add_zero]
    unfold GatherDims.start
    rw [dif_pos (show (⟨1, by decide⟩ : Fin S512x16.rank) ∈ gather_S512x16_S512x1x1_S512x1_n_1_0_0_1_2_11.startIndexMap from List.mem_singleton.2 rfl)]
    have hsi : gather_S512x16_S512x1x1_S512x1_n_1_0_0_1_2_11.siIdx (ix2 r 0)
        ⟨List.idxOf (⟨1, by decide⟩ : Fin S512x16.rank) gather_S512x16_S512x1x1_S512x1_n_1_0_0_1_2_11.startIndexMap, List.idxOf_lt_length_iff.2 (List.mem_singleton.2 rfl)⟩
        = ix3 r 0 0 := by
      funext b
      refine Fin.ext ?_
      match b with
      | ⟨0, _⟩ => rfl
      | ⟨1, _⟩ => rfl
      | ⟨2, _⟩ => rfl
    have he := e.isLt
    rw [hsi, hidx, StableHlo.Predicate.toInt_ofNat_small _ (by omega)]
    show min ((e.val : Int)).toNat (16 - 1) = e.val
    omega

theorem reduces_S512x1x1 : S512x1x1.Reduces [2] S512x1 := by decide

theorem in_table (e : Fin 16) : IntOp.andi (IntOp.andi (IntOp.cmpi .sge (BitVec.ofNat 32 e.val) 0#32) (IntOp.cmpi .sle (BitVec.ofNat 32 e.val) 15#32)) 1#1 = 1#1 := by
  revert e; decide

theorem v11_at (r : Fin 512) (e : Fin 16) (h : x2 (ix2 r 0) = BitVec.ofNat 32 e.val) :
    val_main_v11 (F := Ideal) x0 x1 x2 (ix2 r 0) = prob x0 x1 r e := by
  have h12 : val_main_call0_v12 (F := Ideal) x2 (ix2 r 0) = 1#1 := by
    unfold val_main_call0_v12
    rw [Host.reduce_eq_fold_single IntOp.andi _ _ _ reduces_S512x1x1]
    have hl : reduces_S512x1x1.lift (ix2 r 0) (0 : Fin 1) = ix3 r 0 0 :=
      funext fun a => match a with | ⟨0, _⟩ => rfl | ⟨1, _⟩ => rfl | ⟨2, _⟩ => rfl
    refine (Finset.fold_singleton (op := IntOp.andi (w := 1)) (b := 1#1) (a := (0 : Fin 1))
      (f := fun k => val_main_call0_v11 (F := Ideal) x2 (reduces_S512x1x1.lift (ix2 r 0) k))).trans ?_
    rw [hl, val_main_call0_v11_apply, val_main_call0_v7_apply, val_main_call0_v10_apply, call0_v5_at x2 r e h, val_main_call0_v6_apply,
      val_main_call0_v9_apply, val_main_call0_v8_apply, val_main_call0_c_1_apply, val_main_call0_c_2_apply]
    exact in_table e
  rw [val_main_v11_apply, h12, select_one, call0_v13_at x0 x1 x2 r e h, v9_at]

/-! ## The token's own expert's weights -/

theorem v18_at (r : Fin 512) (e : Fin 16) (h : x2 (ix2 r 0) = BitVec.ofNat 32 e.val) :
    val_main_v18 (F := Ideal) x2 (ix2 r 0) = BitVec.ofNat 32 e.val := by
  have h12 : val_main_v12 (F := Ideal) x2 (idx_main_v18 (ix2 r 0)) = BitVec.ofNat 32 e.val := by
    rw [val_main_v12_apply, ← h]
    exact congrArg x2 ((eq_ix2 _).trans (by
      rw [show idx_main_v12 (idx_main_v18 (ix2 r 0)) 0 = r from Fin.ext (Nat.div_one _)]; rfl))
  rw [val_main_v18_apply, val_main_v17_apply, val_main_v16_apply, val_main_v14_apply, h12, val_main_v13_apply, val_main_v15_apply,
    val_main_c_apply, val_main_c_1_apply]
  exact wrapped e

theorem v19_at (r : Fin 512) (k : Fin 256) (o : Fin 512) (e : Fin 16) (h : x2 (ix2 r 0) = BitVec.ofNat 32 e.val) :
    val_main_v19 (F := Ideal) x2 x3 (ix3 r k o) = x3 (ix3 e k o) := by
  have hidx := v18_at x2 r e h
  unfold val_main_v19 Host.gather
  generalize val_main_v18 (F := Ideal) x2 = idx at hidx ⊢
  refine congrArg x3 (funext fun a => Fin.ext ?_)
  show gather_S16x256x512_S512x1_S512x256x512_12_0_n_n_0_1_1256512.start (ix3 r k o) idx a
    + gather_S16x256x512_S512x1_S512x256x512_12_0_n_n_0_1_1256512.batchCoord (ix3 r k o) a
    + gather_S16x256x512_S512x1_S512x256x512_12_0_n_n_0_1_1256512.offCoord (ix3 r k o) a = _
  rw [GatherDims.batchCoord_eq_zero _ _ _ (List.not_mem_nil)]
  match a with
  | ⟨0, _⟩ =>
    rw [GatherDims.offCoord_eq_zero _ _ _ (fun hk => ((GatherDims.mem_sKept _ _).mp hk).1 (List.mem_singleton.2 rfl))]
    simp only [Nat.add_zero]
    unfold GatherDims.start
    rw [dif_pos (show (⟨0, by decide⟩ : Fin S16x256x512.rank) ∈ gather_S16x256x512_S512x1_S512x256x512_12_0_n_n_0_1_1256512.startIndexMap from List.mem_singleton.2 rfl)]
    have hsi : gather_S16x256x512_S512x1_S512x256x512_12_0_n_n_0_1_1256512.siIdx (ix3 r k o)
        ⟨List.idxOf (⟨0, by decide⟩ : Fin S16x256x512.rank) gather_S16x256x512_S512x1_S512x256x512_12_0_n_n_0_1_1256512.startIndexMap, List.idxOf_lt_length_iff.2 (List.mem_singleton.2 rfl)⟩
        = ix2 r 0 := by
      funext b
      refine Fin.ext ?_
      match b with
      | ⟨0, _⟩ => rfl
      | ⟨1, _⟩ => rfl
    have he := e.isLt
    rw [hsi, hidx, StableHlo.Predicate.toInt_ofNat_small _ (by omega)]
    show min ((e.val : Int)).toNat (16 - 1) = e.val
    omega
  | ⟨1, _⟩ =>
    unfold GatherDims.start GatherDims.offCoord
    rw [dif_neg (show (⟨1, by decide⟩ : Fin S16x256x512.rank) ∉ gather_S16x256x512_S512x1_S512x256x512_12_0_n_n_0_1_1256512.startIndexMap by decide),
      dif_pos (show (⟨1, by decide⟩ : Fin S16x256x512.rank) ∈ gather_S16x256x512_S512x1_S512x256x512_12_0_n_n_0_1_1256512.sKept by decide)]
    exact Nat.zero_add _
  | ⟨2, _⟩ =>
    unfold GatherDims.start GatherDims.offCoord
    rw [dif_neg (show (⟨2, by decide⟩ : Fin S16x256x512.rank) ∉ gather_S16x256x512_S512x1_S512x256x512_12_0_n_n_0_1_1256512.startIndexMap by decide),
      dif_pos (show (⟨2, by decide⟩ : Fin S16x256x512.rank) ∈ gather_S16x256x512_S512x1_S512x256x512_12_0_n_n_0_1_1256512.sKept by decide)]
    exact Nat.zero_add _

theorem v20_at (r o : Fin 512) (e : Fin 16) (h : x2 (ix2 r 0) = BitVec.ofNat 32 e.val) :
    val_main_v20 (F := Ideal) x0 x2 x3 (ix2 r o) = ∑ k : Fin 256, x0 (ix2 r k) * x3 (ix3 e k o) := by
  rw [val_main_v20_apply]
  refine Finset.sum_congr rfl fun k _ => ?_
  rw [show lidx_main_v20 (ix2 r o) k = ix2 r k from (eq_ix2 _).trans rfl, show ridx_main_v20 (ix2 r o) k = ix3 r k o from (eq_ix3 _).trans rfl,
    v19_at x2 x3 r k o e h]

/-! ## The result -/

theorem v10_at (r o : Fin 512) : val_main_v10 (F := Ideal) x0 x4 (ix2 r o) = ∑ k : Fin 256, x0 (ix2 r k) * x4 (ix2 k o) := by
  rw [val_main_v10_apply]
  refine Finset.sum_congr rfl fun k _ => ?_
  rw [show lidx_main_v10 (ix2 r o) k = ix2 r k from (eq_ix2 _).trans rfl, show ridx_main_v10 (ix2 r o) k = ix2 k o from (eq_ix2 _).trans rfl]

theorem exists_at (e : Fin 16) : IntOp.andi (IntOp.cmpi .sge (BitVec.ofNat 32 e.val) 0#32) (IntOp.cmpi .slt (BitVec.ofNat 32 e.val) 16#32) = 1#1 := by
  revert e; decide

/-- An index word between 0 and 15 is one of the sixteen. -/
theorem exists_of (v : BitVec 32) (h : IntOp.andi (IntOp.cmpi .sge v 0#32) (IntOp.cmpi .slt v 16#32) = 1#1) :
    ∃ e : Fin 16, v = BitVec.ofNat 32 e.val := by
  have hand : ∀ a b : Bool, (BitVec.ofBool a &&& BitVec.ofBool b) = 1#1 → a = true ∧ b = true := by decide
  obtain ⟨h0, h1⟩ := hand _ _ h
  have h0' : (0#32 : BitVec 32).toInt ≤ v.toInt := BitVec.sle_iff_toInt_le.1 h0
  have h1' : v.toInt < (16#32 : BitVec 32).toInt := BitVec.slt_iff_toInt_lt.1 h1
  have e0 : (0#32 : BitVec 32).toInt = 0 := by decide
  have e16 : (16#32 : BitVec 32).toInt = 16 := by decide
  rw [e0] at h0'
  rw [e16] at h1'
  have hv : v.toInt = v.toNat := by
    rw [BitVec.toInt_eq_toNat_cond] at h0' ⊢
    split
    · rfl
    · rename_i hc
      rw [if_neg hc] at h0'
      have := v.isLt
      omega
  refine ⟨⟨v.toNat, by omega⟩, ?_⟩
  exact BitVec.eq_of_toNat_eq (by rw [BitVec.toNat_ofNat, Nat.mod_eq_of_lt v.isLt])

theorem v25_at (r o : Fin 512) : val_main_call1_v1 (F := Ideal) x2 (ix2 r o) = IntOp.andi (IntOp.cmpi .sge (x2 (ix2 r 0)) 0#32) (IntOp.cmpi .slt (x2 (ix2 r 0)) 16#32) := by
  rw [val_main_call1_v1_apply, val_main_v25_apply, val_main_v22_apply, val_main_v24_apply, val_main_v21_apply, val_main_v23_apply,
    val_main_c_2_apply, val_main_c_3_apply, show idx_main_call1_v1 (ix2 r o) = ix2 r 0 from (eq_ix2 _).trans rfl]

/-- A token whose expert is `e`. -/
theorem result_at (r o : Fin 512) (e : Fin 16) (h : x2 (ix2 r 0) = BitVec.ofNat 32 e.val) :
    val_main_v29 (F := Ideal) x0 x1 x2 x3 x4 (ix2 r o)
      = (∑ k : Fin 256, x0 (ix2 r k) * x4 (ix2 k o)) + prob x0 x1 r e * ∑ k : Fin 256, x0 (ix2 r k) * x3 (ix3 e k o) := by
  rw [val_main_v29_apply, v10_at, val_main_v28_apply, v25_at, h, exists_at, select_one, val_main_v27_apply, val_main_v26_apply,
    show idx_main_v26 (ix2 r o) = ix2 r 0 from (eq_ix2 _).trans rfl, v11_at x0 x1 x2 r e h, v20_at x0 x2 x3 r o e h]
  rfl

/-- A token whose expert does not exist. -/
theorem result_none (r o : Fin 512) (h : ∀ e : Fin 16, x2 (ix2 r 0) ≠ BitVec.ofNat 32 e.val) :
    val_main_v29 (F := Ideal) x0 x1 x2 x3 x4 (ix2 r o) = ∑ k : Fin 256, x0 (ix2 r k) * x4 (ix2 k o) := by
  rw [val_main_v29_apply, v10_at, val_main_v28_apply, v25_at,
    eq_zero_of_ne_one (fun h1 => (exists_of _ h1).elim fun e he => h e he), select_zero, val_main_call1_v2_apply, val_main_call1_v0_apply,
    val_main_cst_4_apply]
  show _ + Ideal.ofBits .f32 0x00000000#32 = _
  rw [Ideal.ofBits_zero_f32, add_zero]

end Cert.ReferenceValue

end
-- ==== Proof.KernelIdealValue.lean ====
/- What the kernel's device `d` computes for a token: nothing from experts that are not its own, and for a token of one of
   its own experts that token's probability times the product with the expert's weights. -/
module

public import proofs.«01_k».proof.Proof.KernelIdealProtocol
public import proofs.«01_k».proof.Proof.ReferenceValue
public import Idealize.ShloMosaic.Lib.MatmulPlain

@[expose] public section

noncomputable section

namespace Cert.KernelIdealValue

open Cert.KernelIdeal Cert.KernelIdeal.Gen Cert.KernelIdealProof Cert.ReferenceValue Idealize.ShloMosaic Idealize.ShloMosaic.ValueIdx

abbrev Fn (a b : ℕ) : Type := (⟨2, ![a, b]⟩ : Shape).Idx → EReal

/-- A product accumulated from zero, at an index. -/
theorem product {M K N : ℕ} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c) = ∑ k : Fin K, lhs (ix2 r k) * rhs (ix2 k c) := by
  refine (Ideal.matmul_plain_apply none lhs rhs _ r c).trans ?_
  show Ideal.ofBits .f32 0x00000000#32 + _ = _
  rw [Ideal.ofBits_zero_f32, zero_add]

/-- A column read after it has been repeated along the rows. -/
theorem column {n : ℕ} {α : Type} (v : S512.Idx → α) (h : S512.ShapeCasts S512x1) (hb : S512x1.Broadcasts ⟨2, ![512, n]⟩) (r : Fin 512) (e : Fin n) :
    broadcastTo ⟨2, ![512, n]⟩ (shapeCast S512x1 v h) hb (ix2 r e) = v (ix1 r) := by
  rw [broadcastTo_apply _ hb (ix2 r e) (ix2 r 0) (fun a => match a with | ⟨0, _⟩ => rfl | ⟨1, _⟩ => rfl)]
  refine shapeCast_apply v h (ix2 r 0) (ix1 r) ?_
  rw [Shape.rowMajor_val_one, Shape.rowMajor_val_two]
  show r.val = r.val * 1 + 0
  omega

theorem repeated {n : ℕ} {α : Type} (v : S512x1.Idx → α) (hb : S512x1.Broadcasts ⟨2, ![512, n]⟩) (r : Fin 512) (e : Fin n) :
    broadcastTo ⟨2, ![512, n]⟩ v hb (ix2 r e) = v (ix2 r 0) :=
  broadcastTo_apply _ hb (ix2 r e) (ix2 r 0) (fun a => match a with | ⟨0, _⟩ => rfl | ⟨1, _⟩ => rfl)

theorem lift_row (r : Fin 512) (k : Fin 16) : reduces_S512x16_S512.lift (ix1 r) k = ix2 r k :=
  funext fun a => match a with | ⟨0, _⟩ => rfl | ⟨1, _⟩ => rfl

variable (x : Vec Ideal S512x256 .f32) (rw' : Vec Ideal S256x16 .f32) (ix : Vec Ideal S512x1 .i32) (w : Vec Ideal S4x256x512 .f32)

/-! ## The probabilities -/

theorem row_max (v : FVec Ideal S512x16 .f32) (hφ : FKind.Formats .f32) (ha : 0xFF800000#32 = FKind.maximumf.neutral .f32 hφ) (r : Fin 512) :
    multiReduction .maximumf [1] S512 v 0xFF800000#32 reduces_S512x16_S512 hφ ha (ix1 r) = (Finset.univ : Finset (Fin 16)).fold max ⊥ (fun k => v (ix2 r k)) := by
  rw [Ideal.multiReduction_maximumf_single]
  show Finset.fold max (Ideal.ofBits .f32 0xFF800000#32) _ _ = _
  rw [Softmax.ofBits_neg_inf]
  exact Finset.fold_congr fun k _ => congrArg v (lift_row r k)

theorem row_sum (v : FVec Ideal S512x16 .f32) (hφ : FKind.Formats .f32) (ha : 0x00000000#32 = FKind.add.neutral .f32 hφ) (r : Fin 512) :
    multiReduction .add [1] S512 v 0x00000000#32 reduces_S512x16_S512 hφ ha (ix1 r) = ∑ k : Fin 16, v (ix2 r k) := by
  rw [Ideal.multiReduction_add_single]
  exact Finset.sum_congr rfl fun k _ => congrArg v (lift_row r k)

theorem pay1_eq : k0_pay1 (F := Ideal) x = x := shapeCast_self x _

theorem pay2_at (r : Fin 512) (e : Fin 16) : k0_pay2 (F := Ideal) x rw' (ix2 r e) = prob x rw' r e := by
  unfold k0_pay2
  dsimp only
  rw [pay1_eq, shapeCast_self]
  have hs : ∀ k : Fin 16, matmul (φ₁ := .f32) (φ₂ := .f32) dot_S512x256_S256x16_S512x16_1_0_0_1_n_n none x rw' (constant (F := Ideal) S512x16 .f32 0x00000000#32) (ix2 r k) = score x rw' r k :=
    fun k => product (φ₁ := .f32) (φ₂ := .f32) x rw' r k
  generalize matmul (φ₁ := .f32) (φ₂ := .f32) dot_S512x256_S256x16_S512x16_1_0_0_1_n_n none x rw' (constant (F := Ideal) S512x16 .f32 0x00000000#32) = s at hs
  have hM : ∀ k : Fin 16, broadcastTo S512x16 (shapeCast S512x1 (multiReduction .maximumf [1] S512 s 0xFF800000#32 reduces_S512x16_S512 (.inl rfl) rfl) shapeCasts_S512_S512x1)
      broadcasts_S512x1_S512x16 (ix2 r k) = top x rw' r := fun k => by
    refine (column _ _ _ r k).trans ((row_max s _ _ r).trans ?_)
    exact Finset.fold_congr fun k _ => hs k
  generalize broadcastTo S512x16 (shapeCast S512x1 (multiReduction .maximumf [1] S512 s 0xFF800000#32 reduces_S512x16_S512 (.inl rfl) rfl) shapeCasts_S512_S512x1)
      broadcasts_S512x1_S512x16 = t at hM
  have he : ∀ k : Fin 16, exp (subf s t) (ix2 r k) = Ideal.exp (score x rw' r k - top x rw' r) := fun k => by
    show Ideal.exp (s (ix2 r k) - t (ix2 r k)) = _
    rw [hs, hM]
  show Ideal.div (exp (subf s t) (ix2 r e)) _ = _
  rw [he]
  refine congrArg (Ideal.div _) ((column _ _ _ r e).trans ((row_sum _ _ _ r).trans ?_))
  exact Finset.sum_congr rfl fun k _ => he k

/-! ## A token's own probability -/

abbrev idx (r : Fin 512) : BitVec 32 := ix (ix2 r 0)

theorem pay3_eq : k0_pay3 (F := Ideal) ix = ix := shapeCast_self ix _

/-- The probability picked out by the token's index. -/
def picked (P : Fn 512 16) (r : Fin 512) : EReal :=
  ∑ e : Fin 16, Scalar.select (IntOp.cmpi .eq (BitVec.ofNat 32 e.val) (idx ix r)) (P (ix2 r e)) 0

theorem ofNat_eq_iff (a b : Fin 16) : BitVec.ofNat 32 a.val = BitVec.ofNat 32 b.val ↔ a = b := by revert a b; decide

theorem select_eq {α : Type} {a b : BitVec 32} (h : a = b) (u v : α) : Scalar.select (IntOp.cmpi .eq a b) u v = u := by
  rw [StableHlo.Predicate.cmpi_eq_iff.2 h, select_one]
theorem select_ne {α : Type} {a b : BitVec 32} (h : a ≠ b) (u v : α) : Scalar.select (IntOp.cmpi .eq a b) u v = v := by
  rw [eq_zero_of_ne_one (fun h1 => h (StableHlo.Predicate.cmpi_eq_iff.1 h1)), select_zero]

theorem picked_of (P : Fn 512 16) (r : Fin 512) (e : Fin 16) (h : idx ix r = BitVec.ofNat 32 e.val) : picked ix P r = P (ix2 r e) := by
  unfold picked
  rw [h, Finset.sum_eq_single e (fun b _ hb => select_ne (fun hc => hb ((ofNat_eq_iff _ _).1 hc)) _ _) (fun hn => absurd (Finset.mem_univ _) hn)]
  exact select_eq rfl _ _

theorem pay4_at (P : FVec Ideal S512x16 .f32) (r : Fin 512) (k : Fin 256) : k0_pay4 (F := Ideal) x P ix (ix2 r k) = x (ix2 r k) * picked ix P r := by
  unfold k0_pay4
  dsimp only
  rw [pay3_eq]
  show x (ix2 r k) * _ = _
  refine congrArg (x (ix2 r k) * ·) ((column _ _ _ r k).trans ((row_sum _ _ _ r).trans ?_))
  refine Finset.sum_congr rfl fun e _ => ?_
  show Scalar.select (IntOp.cmpi .eq (iota .tc S512x16 32 [1] iota_S512x16_d1_w32 (ix2 r e)) (broadcastTo S512x16 ix broadcasts_S512x1_S512x16 (ix2 r e))) (P (ix2 r e))
    (Ideal.ofBits .f32 0x00000000#32) = _
  rw [Ideal.ofBits_zero_f32, iota_single_apply, repeated ix]

/-! ## The tokens of one expert -/

/-- The tokens of the expert numbered `n`, each times its probability, and zero for the others. -/
def masked (n : BitVec 32) (P : Fn 512 16) (r : Fin 512) (k : Fin 256) : EReal :=
  Scalar.select (IntOp.cmpi .eq (idx ix r) n) (x (ix2 r k) * picked ix P r) 0

theorem mask_at (n : BitVec 32) (P : FVec Ideal S512x16 .f32) (h : S512x1.ShapeCasts S512x1) (r : Fin 512) (k : Fin 256) :
    select (broadcastTo S512x256 (shapeCast S512x1 (cmpi .eq (k0_pay3 (F := Ideal) ix) (broadcast S512x1 n)) h) broadcasts_S512x1_S512x256)
      (k0_pay4 (F := Ideal) x P ix) (broadcast S512x256 (Scalar.ofBits (F := Ideal) .f32 0x00000000#32)) (ix2 r k) = masked x ix n P r k := by
  rw [pay3_eq, shapeCast_self]
  show Scalar.select (broadcastTo S512x256 (cmpi .eq ix (broadcast S512x1 n)) broadcasts_S512x1_S512x256 (ix2 r k)) (k0_pay4 (F := Ideal) x P ix (ix2 r k))
    (Ideal.ofBits .f32 0x00000000#32) = _
  rw [repeated, pay4_at, Ideal.ofBits_zero_f32]
  rfl

abbrev piece (b : BitVec 32) (l : Fin 4) (P : Fn 512 16) (r : Fin 512) (k : Fin 256) : EReal :=
  masked x ix (Scalar.addi (Scalar.muli b 4#32) (BitVec.ofNat 32 l.val)) P r k

theorem pay5_at (b : BitVec 32) (P : FVec Ideal S512x16 .f32) (r : Fin 512) (k : Fin 256) : k0_pay5 (F := Ideal) b x P ix (ix2 r k) = piece x ix b 0 P r k := mask_at x ix _ P _ r k
theorem pay6_at (b : BitVec 32) (P : FVec Ideal S512x16 .f32) (r : Fin 512) (k : Fin 256) : k0_pay6 (F := Ideal) b x P ix (ix2 r k) = piece x ix b 1 P r k := mask_at x ix _ P _ r k
theorem pay7_at (b : BitVec 32) (P : FVec Ideal S512x16 .f32) (r : Fin 512) (k : Fin 256) : k0_pay7 (F := Ideal) b x P ix (ix2 r k) = piece x ix b 2 P r k := mask_at x ix _ P _ r k
theorem pay8_at (b : BitVec 32) (P : FVec Ideal S512x16 .f32) (r : Fin 512) (k : Fin 256) : k0_pay8 (F := Ideal) b x P ix (ix2 r k) = piece x ix b 3 P r k := mask_at x ix _ P _ r k

/-! ## The partial product -/

/-- Position `256 l + k` of the joined axis. -/
abbrev joined (l : Fin 4) (k : Fin 256) : Fin 1024 := ⟨k.val + 256 * l.val, by have := l.isLt; have := k.isLt; omega⟩

theorem sum_joined (f : Fin 1024 → EReal) : ∑ K, f K = ∑ l : Fin 4, ∑ k : Fin 256, f (joined l k) := by
  rw [← Fintype.sum_prod_type']
  exact (Equiv.sum_comp (finProdFinEquiv (m := 4) (n := 256)) f).symm

theorem cat_at (v : Fin 4 → FVec Ideal S512x256 .bf16) (r : Fin 512) (l : Fin 4) (k : Fin 256) :
    concatenate S512x1024 1 [⟨S512x256, v 0⟩, ⟨S512x256, v 1⟩, ⟨S512x256, v 2⟩, ⟨S512x256, v 3⟩]
      concatenates_S512x256_S512x256_S512x256_S512x256_S512x1024_d1 (ix2 r (joined l k)) = v l (ix2 r k) := by
  have off : ∀ b : Fin S512x256.rank, b.cast (rfl : S512x256.rank = S512x1024.rank) ≠ (1 : Fin S512x1024.rank) →
      ((ix2 r k : S512x256.Idx) b).val = ((ix2 r (joined l k) : S512x1024.Idx) (b.cast rfl)).val := fun b hb => by
    match b with
    | ⟨0, _⟩ => rfl
    | ⟨1, _⟩ => exact absurd rfl hb
  match l with
  | ⟨0, _⟩ => exact concatenate_apply_piece (t := S512x1024) 1 _ _ _ 0 (by simp) S512x256 (v 0) rfl rfl 0 rfl (ix2 r k) off (by show 0 + k.val = k.val + 256 * 0; omega)
  | ⟨1, _⟩ => exact concatenate_apply_piece (t := S512x1024) 1 _ _ _ 1 (by simp) S512x256 (v 1) rfl rfl 256 rfl (ix2 r k) off (by show 256 + k.val = k.val + 256 * 1; omega)
  | ⟨2, _⟩ => exact concatenate_apply_piece (t := S512x1024) 1 _ _ _ 2 (by simp) S512x256 (v 2) rfl rfl 512 rfl (ix2 r k) off (by show 512 + k.val = k.val + 256 * 2; omega)
  | ⟨3, _⟩ => exact concatenate_apply_piece (t := S512x1024) 1 _ _ _ 3 (by simp) S512x256 (v 3) rfl rfl 768 rfl (ix2 r k) off (by show 768 + k.val = k.val + 256 * 3; omega)

theorem weights_at (h : S4x256x512.ShapeCasts S1024x512) (o : Fin 512) (l : Fin 4) (k : Fin 256) :
    shapeCast S1024x512 w h (ix2 (joined l k) o) = w (ix3 l k o) := by
  refine shapeCast_apply w h _ (ix3 l k o) ?_
  rw [Shape.rowMajor_val_two, Shape.rowMajor_val_three]
  show (l.val * 256 + k.val) * 512 + o.val = (k.val + 256 * l.val) * 512 + o.val
  omega

theorem pay9_at (v0 v1 v2 : FVec Ideal S512x256 .bf16) (v3 : FVec Ideal S512x256 .f32) (u : Fin 4 → Fn 512 256) (h0 : v0 = u 0) (h1 : v1 = u 1) (h2 : v2 = u 2) (h3 : v3 = u 3)
    (r o : Fin 512) : k0_pay9 (F := Ideal) v0 v1 v2 v3 w (ix2 r o) = ∑ l : Fin 4, ∑ k : Fin 256, u l (ix2 r k) * w (ix3 l k o) := by
  subst h0 h1 h2 h3
  unfold k0_pay9
  rw [shapeCast_self, shapeCast_self]
  refine (product _ _ r o).trans ((sum_joined _).trans ?_)
  refine Finset.sum_congr rfl fun l _ => Finset.sum_congr rfl fun k _ => ?_
  refine congrArg₂ (· * ·) (cat_at u r l k) (weights_at w _ o l k)

/-- The partial product of the device whose experts start at four times `b`. -/
def partOf (b : BitVec 32) : FVec Ideal S512x512 .f32 :=
  k0_pay9 (k0_pay5 b (k0_pay1 x) (k0_pay2 x rw') ix) (k0_pay6 b (k0_pay1 x) (k0_pay2 x rw') ix) (k0_pay7 b (k0_pay1 x) (k0_pay2 x rw') ix)
    (k0_pay8 b (k0_pay1 x) (k0_pay2 x rw') ix) w

theorem partOf_at (b : BitVec 32) (r o : Fin 512) :
    partOf x rw' ix w b (ix2 r o) = ∑ l : Fin 4, ∑ k : Fin 256, piece x ix b l (k0_pay2 (F := Ideal) x rw') r k * w (ix3 l k o) := by
  unfold partOf
  rw [pay1_eq]
  refine pay9_at w _ _ _ _ (fun l i => piece x ix b l (k0_pay2 (F := Ideal) x rw') (i 0) (i 1)) ?_ ?_ ?_ ?_ r o
  · exact funext fun i => (congrArg _ (eq_ix2 i)).trans (pay5_at x ix b _ _ _)
  · exact funext fun i => (congrArg _ (eq_ix2 i)).trans (pay6_at x ix b _ _ _)
  · exact funext fun i => (congrArg _ (eq_ix2 i)).trans (pay7_at x ix b _ _ _)
  · exact funext fun i => (congrArg _ (eq_ix2 i)).trans (pay8_at x ix b _ _ _)

/-! ## Which tokens it concerns -/

/-- Expert `l` of device `d`. -/
abbrev expert (d l : Fin 4) : Fin 16 := ⟨4 * d.val + l.val, by have := d.isLt; have := l.isLt; omega⟩

theorem word_expert (d : Dev nD) (l : Fin 4) : Scalar.addi (Scalar.muli (devWord d) 4#32) (BitVec.ofNat 32 l.val) = BitVec.ofNat 32 (expert d l).val := by
  revert d l; decide

theorem expert_inj (d d' l l' : Fin 4) (h : expert d l = expert d' l') : d = d' ∧ l = l' := by revert d d' l l'; decide

theorem expert_surj (e : Fin 16) : ∃ d l : Fin 4, e = expert d l := by revert e; decide

theorem piece_ne (P : Fn 512 16) (d : Dev nD) (l : Fin 4) (r : Fin 512) (k : Fin 256) (h : idx ix r ≠ BitVec.ofNat 32 (expert d l).val) :
    piece x ix (devWord d) l P r k = 0 := select_ne (by rw [word_expert]; exact h) _ _
theorem piece_eq (P : Fn 512 16) (d : Dev nD) (l : Fin 4) (r : Fin 512) (k : Fin 256) (h : idx ix r = BitVec.ofNat 32 (expert d l).val) :
    piece x ix (devWord d) l P r k = x (ix2 r k) * picked ix P r := select_eq (by rw [word_expert]; exact h) _ _

/-- No token of another device's expert, or of none, contributes. -/
theorem partOf_zero (d : Dev nD) (r o : Fin 512) (h : ∀ l : Fin 4, idx ix r ≠ BitVec.ofNat 32 (expert d l).val) : partOf x rw' ix w (devWord d) (ix2 r o) = 0 := by
  rw [partOf_at]
  refine Finset.sum_eq_zero fun l _ => Finset.sum_eq_zero fun k _ => ?_
  rw [piece_ne x ix _ d l r k (h l), zero_mul]

/-- A token of the device's own expert `l`. -/
theorem partOf_own (d : Dev nD) (l : Fin 4) (r o : Fin 512) (h : idx ix r = BitVec.ofNat 32 (expert d l).val)
    (h0 : 0 ≤ prob x rw' r (expert d l)) (h1 : prob x rw' r (expert d l) ≠ ⊤) :
    partOf x rw' ix w (devWord d) (ix2 r o) = prob x rw' r (expert d l) * ∑ k : Fin 256, x (ix2 r k) * w (ix3 l k o) := by
  rw [partOf_at, Finset.sum_eq_single l (fun l' _ hl => Finset.sum_eq_zero fun k _ => by
    rw [piece_ne x ix _ d l' r k (fun hc => hl (expert_inj _ _ _ _ ((ofNat_eq_iff _ _).1 (h.symm.trans hc))).2.symm), zero_mul]) (fun hn => absurd (Finset.mem_univ _) hn),
    Softmax.mul_sum_number _ _ h0 h1]
  refine Finset.sum_congr rfl fun k _ => ?_
  rw [piece_eq x ix _ d l r k h, picked_of ix _ r _ h, pay2_at, mul_comm (x (ix2 r k)), mul_assoc]

end Cert.KernelIdealValue

end
-- ==== Proof.KernelIdealResult.lean ====
/- The result block of each device after the run: the four devices' partial products of its rows and the shared expert's
   product; and that this is the reference's result. -/
module

public import proofs.«01_k».proof.Defs
public import proofs.«01_k».proof.Proof.KernelIdealRun
public import proofs.«01_k».proof.Proof.KernelIdealValue
public import proofs.«01_k».proof.Proof.Gen.Pre_top_score_finite_KernelIdeal

@[expose] public section

noncomputable section

namespace Cert.KernelIdealResult

open Cert.KernelIdeal Cert.KernelIdeal.Gen Cert.KernelIdealProof Cert.KernelIdealValue Cert.ReferenceValue
open Idealize.ShloMosaic Idealize.ShloMosaic.TcCoe Idealize.ShloMosaic.ValueIdx Idealize.SL.Sem

variable (m : (ℓ : Loc nD τ sig) → Buf (Elt Ideal) ℓ) (c : Dev nD)

/-! ## The staged arrays are the arguments -/

/-- Every window's one block starts at zero. -/
theorem at_zero {n : ℕ} (i s : Fin n → ℕ) (h : ∀ a, i a = 0) : (fun a => i a * s a) = fun _ => 0 := funext fun a => by rw [h a, Nat.zero_mul]

theorem xs_eq : xs m c = m ((c : Thread nD τ).loc main_arg0) := by
  show (win0_0.blk t0_0).view.read (Elt Ideal) _ = _
  exact Memref.read_access_unit_zero (Elt Ideal) main_arg0 (at_zero _ _ (by decide)) (by decide) _
theorem rws_eq : rws m c = m ((c : Thread nD τ).loc main_arg1) := by
  show (win0_1.blk t0_0).view.read (Elt Ideal) _ = _
  exact Memref.read_access_unit_zero (Elt Ideal) main_arg1 (at_zero _ _ (by decide)) (by decide) _
theorem ids_eq : ids m c = m ((c : Thread nD τ).loc main_arg2) := by
  show (win0_2.blk t0_0).view.read (Elt Ideal) _ = _
  exact Memref.read_access_unit_zero (Elt Ideal) main_arg2 (at_zero _ _ (by decide)) (by decide) _
theorem ews_eq : ews m c = m ((c : Thread nD τ).loc main_arg3) := by
  show (win0_3.blk t0_0).view.read (Elt Ideal) _ = _
  exact Memref.read_access_unit_zero (Elt Ideal) main_arg3 (at_zero _ _ (by decide)) (by decide) _
theorem sws_eq : sws m c = m ((c : Thread nD τ).loc main_arg4) := by
  show (win0_4.blk t0_0).view.read (Elt Ideal) _ = _
  exact Memref.read_access_unit_zero (Elt Ideal) main_arg4 (at_zero _ _ (by decide)) (by decide) _

/-- The result array after the run is what the body left: its one block is the whole array. -/
theorem finalA_5 : finalA m c (5 : Fin 6) = outv m c := by
  have whole : ∀ f : Buf (Elt Ideal) ((c : Thread nD τ).loc main_v1), ((cfg0.win 5).blk t0_0).view.read (Elt Ideal) f = f := fun f => by
    show (win0_5.blk t0_0).view.read (Elt Ideal) f = f
    exact Memref.read_access_unit_zero (Elt Ideal) main_v1 (at_zero _ _ (by decide)) (by decide) f
  refine (whole (finalA m c (5 : Fin 6))).symm.trans ?_
  show ((cfg0.win 5).blk t0_0).view.read (Elt Ideal) ((dats (F := Ideal) m 0 c).arrAt 5 (t0_0.val + 1)) = _
  rw [(dats m 0 c).arrAt_succ (5 : Fin 6) t0_0, if_pos (flush0_5 t0_0)]
  exact (View.read_write_univ _ _).trans (funext fun _ => rfl)

/-! ## The result block at an index -/

/-- Row `r` of device `d`'s block, in the whole array. -/
abbrev row (d : Fin 4) (r : Fin 128) : Fin 512 := ⟨128 * d.val + r.val, by have := d.isLt; have := r.isLt; omega⟩

theorem ownX_at (r : Fin 128) (k : Fin 256) : ownX m c (ix2 r k) = xs m c (ix2 (row c r) k) := by
  refine congrArg (xs m c) (funext fun a => Fin.ext ?_)
  show (k0_off2 c) a + 1 * ((ix2 r k : S128x256.Idx) a).val = _
  rw [k0_off2_eq c]
  match a with
  | ⟨0, _⟩ => show 128 * c.val + 1 * r.val = 128 * c.val + r.val; omega
  | ⟨1, _⟩ => show 0 + 1 * k.val = k.val; omega

theorem ownRows_at (r : Fin 128) (o : Fin 512) : ownRows m c (ix2 r o) = part m c (ix2 (row c r) o) := by
  refine congrArg (part m c) (funext fun a => Fin.ext ?_)
  show (k0_off3 c) a + 1 * ((ix2 r o : S128x512.Idx) a).val = _
  rw [k0_off3_eq c]
  match a with
  | ⟨0, _⟩ => show 128 * c.val + 1 * r.val = 128 * c.val + r.val; omega
  | ⟨1, _⟩ => show 0 + 1 * o.val = o.val; omega

theorem rowsFor_at (k : Fin 3) (r : Fin 128) (o : Fin 512) : rowsFor m c k (ix2 r o) = part m c (ix2 (row (hop k c) r) o) := by
  refine congrArg (part m c) (funext fun a => Fin.ext ?_)
  show (k0_off1 c (BitVec.ofNat 32 (1 + k.val))) a + 1 * ((ix2 r o : S128x512.Idx) a).val = _
  rw [k0_off1_eq c k]
  match a with
  | ⟨0, _⟩ => show 128 * ((c.val + k.val + 1) % 4) + 1 * r.val = 128 * ((c.val + (k.val + 1)) % 4) + r.val; omega
  | ⟨1, _⟩ => show 0 + 1 * o.val = o.val; omega

/-- What arrives in slot `k`, read as rows, is the sender's partial product of the receiver's rows. -/
theorem got_at (h : S1x128x512.ShapeCasts S128x512) (k : Fin 3) (r : Fin 128) (o : Fin 512) :
    shapeCast S128x512 (got m c k) h (ix2 r o) = part m (hop k.rev c) (ix2 (row c r) o) := by
  have hs : shapeCast S128x512 (got m c k) h = rowsFor m (hop k.rev c) k := shapeCast_shapeCast (rowsFor m (hop k.rev c) k) _ h
  rw [hs, rowsFor_at, hop_hop_rev]

theorem outv_at (r : Fin 128) (o : Fin 512) : outv m c (ix2 r o)
    = part m c (ix2 (row c r) o) + (∑ k : Fin 256, xs m c (ix2 (row c r) k) * sws m c (ix2 k o)) + part m (hop 2 c) (ix2 (row c r) o)
      + part m (hop 1 c) (ix2 (row c r) o) + part m (hop 0 c) (ix2 (row c r) o) := by
  have hm : matmul (φ₁ := .bf16) (φ₂ := .bf16) dot_S128x256_S256x512_S128x512_1_0_0_1_n_n none
      (truncf .bf16 (shapeCast S128x256 (ownX m c) shapeCasts_S128x256_S128x256) bitsLt_bf16_f32)
      (truncf .bf16 (shapeCast S256x512 (sws m c) shapeCasts_S256x512_S256x512) bitsLt_bf16_f32)
      (constant (F := Ideal) S128x512 .f32 0x00000000#32) (ix2 r o) = ∑ k : Fin 256, xs m c (ix2 (row c r) k) * sws m c (ix2 k o) := by
    rw [shapeCast_self, shapeCast_self]
    refine (product _ _ r o).trans (Finset.sum_congr rfl fun k _ => ?_)
    show ownX m c (ix2 r k) * sws m c (ix2 k o) = _
    rw [ownX_at]
  have h0 := got_at m c shapeCasts_S1x128x512_S128x512 0 r o
  have h1 := got_at m c shapeCasts_S1x128x512_S128x512 1 r o
  have h2 := got_at m c shapeCasts_S1x128x512_S128x512 2 r o
  refine Eq.trans ?_ (congrArg₂ (· + ·) (congrArg₂ (· + ·) (congrArg₂ (· + ·) (congrArg₂ (· + ·) (ownRows_at m c r o) hm) h0) h1) h2)
  rfl

/-! ## The reference's result -/

/-- A finite highest score makes a token's probabilities numbers. -/
theorem number_of (x : XA) (rw' : RA) (ix : IA) (w : Vec Ideal S4x256x512 .f32) (sw : SA)
    (h : Cert.Pre_top_score_finite_KernelIdeal.fn (F := Ideal) x rw' ix w sw = fun _ => 1#1) (r : Fin 512) (e : Fin 16) :
    0 ≤ prob x rw' r e ∧ prob x rw' r e ≠ ⊤ := by
  have hr : Ideal.cmp .olt (max (Cert.ReferenceIdeal.Read.val_main_v1 (F := Ideal) x rw' (ix1 r)) (-Cert.ReferenceIdeal.Read.val_main_v1 (F := Ideal) x rw' (ix1 r)))
      (Ideal.ofBits .f32 0x7F800000#32) = 1#1 := by
    have hv : Host.reduce FloatOps.maximumf (Host.dotGeneral (F := Ideal) (φ₁ := .f32) (φ₂ := .f32) Cert.Pre_top_score_finite_KernelIdeal.dot_S512x256_S256x16_S512x16_1_0_0_1_n_n none x rw')
        (constant (F := Ideal) Cert.Pre_top_score_finite_KernelIdeal.S_ .f32 0xFF800000#32) Cert.Pre_top_score_finite_KernelIdeal.Gen.reducesTo_S512x16_S512_d1
        Cert.Pre_top_score_finite_KernelIdeal.Gen.h_S_ = Cert.ReferenceIdeal.Read.val_main_v1 (F := Ideal) x rw' := by
      unfold Cert.ReferenceIdeal.Read.val_main_v1 Cert.ReferenceIdeal.Read.val_main_v0 Cert.ReferenceIdeal.Read.val_main_cst
      rfl
    unfold Cert.Pre_top_score_finite_KernelIdeal.fn at h
    dsimp only at h
    rw [hv] at h
    generalize Cert.ReferenceIdeal.Read.val_main_v1 (F := Ideal) x rw' = t at h ⊢
    exact congrFun h (ix1 r)
  rw [v1_at, Softmax.ofBits_inf] at hr
  have hl : max (top x rw' r) (-top x rw' r) < ⊤ := by
    by_contra hn
    have : Ideal.cmp .olt (max (top x rw' r) (-top x rw' r)) ⊤ = 0#1 := by simp [Ideal.cmp, hn]
    rw [this] at hr
    exact absurd hr (by decide)
  refine Softmax.entry_number (score x rw' r) (top x rw' r) rfl (fun ht => ?_) (fun hb => ?_) e
  · rw [ht] at hl; exact absurd hl (by simp)
  · rw [hb] at hl; exact absurd hl (by simp)

/-- Every device is one of the four whose partial products are added. -/
theorem one_of_four (d : Dev nD) : (c = d ∧ hop 2 c ≠ d ∧ hop 1 c ≠ d ∧ hop 0 c ≠ d) ∨ (c ≠ d ∧ hop 2 c = d ∧ hop 1 c ≠ d ∧ hop 0 c ≠ d)
    ∨ (c ≠ d ∧ hop 2 c ≠ d ∧ hop 1 c = d ∧ hop 0 c ≠ d) ∨ (c ≠ d ∧ hop 2 c ≠ d ∧ hop 1 c ≠ d ∧ hop 0 c = d) := by
  revert c d; decide

/-- A sum of which only device `d` has a part. -/
theorem sum_one (p : Dev nD → EReal) (d : Dev nD) (v s : EReal) (hd : p d = v) (hn : ∀ d', d' ≠ d → p d' = 0) :
    p c + s + p (hop 2 c) + p (hop 1 c) + p (hop 0 c) = s + v := by
  rcases one_of_four c d with ⟨h, h2, h1, h0⟩ | ⟨h, h2, h1, h0⟩ | ⟨h, h2, h1, h0⟩ | ⟨h, h2, h1, h0⟩
  · rw [h] at h2 h1 h0 ⊢; rw [hd, hn _ h2, hn _ h1, hn _ h0]; simp only [add_zero]; exact add_comm v s
  · rw [h2, hd, hn _ h, hn _ h1, hn _ h0]; simp only [add_zero, zero_add]
  · rw [h1, hd, hn _ h, hn _ h2, hn _ h0]; simp only [add_zero, zero_add]
  · rw [h0, hd, hn _ h, hn _ h1, hn _ h2]; simp only [add_zero, zero_add]

theorem result_at_row (x : XA) (rw' : RA) (ix : IA) (W : WA) (sw : SA)
    (h0 : ∀ d : Dev nD, m ((d : Thread nD τ).loc main_arg0) = x) (h1 : ∀ d : Dev nD, m ((d : Thread nD τ).loc main_arg1) = rw')
    (h2 : ∀ d : Dev nD, m ((d : Thread nD τ).loc main_arg2) = ix)
    (h3 : ∀ d : Dev nD, m ((d : Thread nD τ).loc main_arg3) = Layout.block ⟨3, ![4, 256, 512]⟩ ⟨3, ![16, 256, 512]⟩ 0 4 d W)
    (h4 : ∀ d : Dev nD, m ((d : Thread nD τ).loc main_arg4) = sw)
    (hp : ∀ (r : Fin 512) (e : Fin 16), 0 ≤ prob x rw' r e ∧ prob x rw' r e ≠ ⊤) (r : Fin 128) (o : Fin 512) :
    outv m c (ix2 r o) = Cert.ReferenceIdeal.Read.val_main_v29 (F := Ideal) x rw' ix W sw (ix2 (row c r) o) := by
  have hpart : ∀ d : Dev nD, part m d = partOf x rw' ix (Layout.block ⟨3, ![4, 256, 512]⟩ ⟨3, ![16, 256, 512]⟩ 0 4 d W) (devWord d) := fun d => by
    rw [show part m d = partOf (xs m d) (rws m d) (ids m d) (ews m d) (devWord d) from rfl, xs_eq, rws_eq, ids_eq, ews_eq, h0, h1, h2, h3]
  have hW : ∀ (d l : Fin 4) (k : Fin 256) (o : Fin 512),
      Layout.block (⟨3, ![4, 256, 512]⟩ : Shape) ⟨3, ![16, 256, 512]⟩ 0 4 d W (by decide) (ix3 l k o) = W (ix3 (expert d l) k o) := fun d l k o => by
    refine congrArg W (funext fun a => Fin.ext ?_)
    match a with
    | ⟨0, _⟩ => show d.val * 4 + l.val = 4 * d.val + l.val; omega
    | ⟨1, _⟩ => rfl
    | ⟨2, _⟩ => rfl
  rw [outv_at, xs_eq, sws_eq, h0, h4]
  by_cases he : ∃ e : Fin 16, idx ix (row c r) = BitVec.ofNat 32 e.val
  · obtain ⟨e, he⟩ := he
    obtain ⟨d, l, rfl⟩ := expert_surj e
    rw [result_at x rw' ix W sw _ o _ he]
    refine sum_one c (fun d' => part m d' (ix2 (row c r) o)) d _ _ ?_ (fun d' hd => ?_)
    · show part m d _ = _
      rw [hpart, partOf_own x rw' ix _ d l _ o he (hp _ _).1 (hp _ _).2]
      exact congrArg _ (Finset.sum_congr rfl fun k _ => congrArg _ (hW d l k o))
    · show part m d' _ = _
      rw [hpart]
      exact partOf_zero x rw' ix _ d' _ o fun l' hc => hd (expert_inj _ _ _ _ ((ofNat_eq_iff _ _).1 (hc.symm.trans he))).1
  · have hz : ∀ d : Dev nD, part m d (ix2 (row c r) o) = 0 := fun d => by
      rw [hpart]
      exact partOf_zero x rw' ix _ d _ o fun l hc => he ⟨_, hc⟩
    rw [result_none x rw' ix W sw _ o fun e hc => he ⟨e, hc⟩, hz, hz, hz, hz]
    simp only [add_zero, zero_add]

theorem result_eq (x : XA) (rw' : RA) (ix : IA) (W : WA) (sw : SA)
    (h0 : ∀ d : Dev nD, m ((d : Thread nD τ).loc main_arg0) = x) (h1 : ∀ d : Dev nD, m ((d : Thread nD τ).loc main_arg1) = rw')
    (h2 : ∀ d : Dev nD, m ((d : Thread nD τ).loc main_arg2) = ix)
    (h3 : ∀ d : Dev nD, m ((d : Thread nD τ).loc main_arg3) = Layout.block ⟨3, ![4, 256, 512]⟩ ⟨3, ![16, 256, 512]⟩ 0 4 d W)
    (h4 : ∀ d : Dev nD, m ((d : Thread nD τ).loc main_arg4) = sw)
    (hp : ∀ (r : Fin 512) (e : Fin 16), 0 ≤ prob x rw' r e ∧ prob x rw' r e ≠ ⊤) :
    outv m c = Layout.block ⟨2, ![128, 512]⟩ ⟨2, ![512, 512]⟩ 0 4 c (Cert.ReferenceIdeal.Read.val_main_v29 (F := Ideal) x rw' ix W sw) := by
  have hat : ∀ (r : Fin 128) (o : Fin 512), outv m c (ix2 r o) = Cert.ReferenceIdeal.Read.val_main_v29 (F := Ideal) x rw' ix W sw (ix2 (row c r) o) :=
    fun r o => result_at_row m c x rw' ix W sw h0 h1 h2 h3 h4 hp r o
  generalize Cert.ReferenceIdeal.Read.val_main_v29 (F := Ideal) x rw' ix W sw = v at hat ⊢
  funext i
  rw [eq_ix2 i]
  refine (hat (i 0) (i 1)).trans (congrArg v (funext fun a => Fin.ext ?_))
  match a with
  | ⟨0, _⟩ => show 128 * c.val + (i 0).val = c.val * 128 + (i 0).val; omega
  | ⟨1, _⟩ => rfl

end Cert.KernelIdealResult

end
-- ==== Proof.lean ====
/- The three runs end with their arguments unchanged and every counter at zero, and the kernel's result blocks are the
   reference's result where every token's highest score is finite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_top_score_finite_KernelIdeal
public import proofs.«01_k».proof.Proof.Gen.Pre_top_score_finite_ReferenceIdeal
public import proofs.«01_k».proof.Proof.KernelRun
public import proofs.«01_k».proof.Proof.KernelIdealRun
public import proofs.«01_k».proof.Proof.KernelIdealResult
public import Idealize.ShloMosaic.Lib.Quiescent
public import Idealize.ShloMosaic.Adequacy
public import Idealize.ShloMosaic.Init

@[expose] public section

noncomputable section

namespace Cert.Proof

open Idealize.ShloMosaic Idealize.SL.Sem

theorem kernel_frame : Cert.quiescent_Kernel := fun m g _ => Cert.KernelProof.run_frame (F := Bits) m g

theorem ideal_frame : Cert.quiescent_KernelIdeal := fun m g _ => Cert.KernelIdealProof.run_frame (F := Ideal) m g

theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem value : Cert.algebraic_KernelIdeal_ReferenceIdeal_pre_top_score_finite_KernelIdeal := by
  intro m g m' g' hpre hargs
  refine ⟨_, ?_, (θ_run Cert.ReferenceIdeal.defs _ _).mono
    (fun r h => ⟨(h 0).1.trans (Cert.ReferenceIdeal.Read.val_main_v29_eq _ _ _ _ _), (h 0).2⟩) (Cert.ReferenceIdeal.Value.run (F := Ideal) m' g')⟩
  refine (θ_run Cert.KernelIdeal.defs _ _).mono (fun r h c => ?_) (Cert.KernelIdealProof.run_main (F := Ideal) m g)
  have hp : ∀ (r : Fin 512) (e : Fin 16), _ := fun r e => Cert.KernelIdealResult.number_of _ _ _ _ _ (hpre c) r e
  rw [(hargs c).1, (hargs c).2.1] at hp
  refine ⟨((h.1 c 5).trans (Cert.KernelIdealResult.finalA_5 m c)).trans ?_, (h.1 c 0).trans (Cert.KernelIdealProof.finalA_0 m c),
    (h.1 c 1).trans (Cert.KernelIdealProof.finalA_1 m c), (h.1 c 2).trans (Cert.KernelIdealProof.finalA_2 m c),
    (h.1 c 3).trans (Cert.KernelIdealProof.finalA_3 m c), (h.1 c 4).trans (Cert.KernelIdealProof.finalA_4 m c)⟩
  exact Cert.KernelIdealResult.result_eq m c _ _ _ _ _ (fun d => (hargs d).1) (fun d => (hargs d).2.1) (fun d => (hargs d).2.2.1)
    (fun d => (hargs d).2.2.2.1) (fun d => (hargs d).2.2.2.2) hp

theorem claim : Cert.Claim :=
  ⟨Cert.Kernel.Gen.facts, Cert.KernelIdeal.Gen.facts, Cert.ReferenceIdeal.Gen.facts, Cert.Pre_top_score_finite_KernelIdeal.Gen.facts,
    Cert.Pre_top_score_finite_ReferenceIdeal.Gen.facts, kernel_frame, ideal_frame, fun m g _ => ideal_frame m g trivial, reference_frame,
    fun m g _ => reference_frame m g trivial, trivial, value⟩

end Cert.Proof

end
